-- ==== Defs.lean ====
def Pre_Kernel (m : (ℓ : Loc Cert.Kernel.nD Cert.Kernel.τ Cert.Kernel.sig) → Buf (Elt Bits) ℓ) : Prop :=
  True

def Pre_Kernel_top_two_untied [hPre_top_two_untied : Cert.Pre_top_two_untied.Facts] (m : (ℓ : Loc Cert.Kernel.nD Cert.Kernel.τ Cert.Kernel.sig) → Buf (Elt Bits) ℓ) : Prop :=
  ∀ c : Dev Cert.Kernel.nD,
    (Cert.Pre_top_two_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_top_two_untied : Cert.Pre_top_two_untied.Facts] (m : (ℓ : Loc Cert.KernelIdeal.nD Cert.KernelIdeal.τ Cert.KernelIdeal.sig) → Buf (Elt Ideal) ℓ) : Prop :=
  ∀ c : Dev Cert.KernelIdeal.nD,
    (Cert.Pre_top_two_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_two_untied [hPre_top_two_untied : Cert.Pre_top_two_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_two_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_top_two_untied [hKernel : Cert.Kernel.Facts] [hPre_top_two_untied : Cert.Pre_top_two_untied.Facts] : Prop :=
  ∀ (m : (ℓ : Loc Cert.Kernel.nD Cert.Kernel.τ Cert.Kernel.sig) → Buf (Elt Bits) ℓ) (g : Dev Cert.Kernel.nD → PrngReg), Pre_Kernel_top_two_untied m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_top_two_untied : Cert.Pre_top_two_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_top_two_untied [hReferenceIdeal : Cert.ReferenceIdeal.Facts] [hPre_top_two_untied : Cert.Pre_top_two_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_two_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_top_two_untied : Cert.Pre_top_two_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_top_two_untied : Cert.Pre_top_two_untied.Facts),
    quiescent_Kernel (hKernel := hKernel)
    ∧ quiescent_Kernel_pre_top_two_untied (hKernel := hKernel) (hPre_top_two_untied := hPre_top_two_untied)
    ∧ quiescent_KernelIdeal (hKernelIdeal := hKernelIdeal) (hPre_top_two_untied := hPre_top_two_untied)
    ∧ quiescent_ReferenceIdeal (hReferenceIdeal := hReferenceIdeal)
    ∧ quiescent_ReferenceIdeal_pre_top_two_untied (hReferenceIdeal := hReferenceIdeal) (hPre_top_two_untied := hPre_top_two_untied)
    ∧ preserves_Kernel_KernelIdeal
    ∧ algebraic_KernelIdeal_ReferenceIdeal (hKernelIdeal := hKernelIdeal) (hReferenceIdeal := hReferenceIdeal) (hPre_top_two_untied := hPre_top_two_untied)
-- ==== Pre_top_two_untied.lean ====
abbrev S64x2048 : Shape := ⟨2, ![64, 2048]⟩
abbrev S8x2048x2048 : Shape := ⟨3, ![8, 2048, 2048]⟩
abbrev S8x2048x1024 : Shape := ⟨3, ![8, 2048, 1024]⟩
abbrev S8x2048 : Shape := ⟨2, ![8, 2048]⟩
abbrev S2048x8 : Shape := ⟨2, ![2048, 8]⟩
abbrev S64x8 : Shape := ⟨2, ![64, 8]⟩
abbrev S_ : Shape := ⟨0, ![]⟩
abbrev S64 : Shape := ⟨1, ![64]⟩
abbrev S64x1 : Shape := ⟨2, ![64, 1]⟩
abbrev S64x3 : Shape := ⟨2, ![64, 3]⟩

class Facts : Prop where
  transposes_S8x2048_S2048x8_1_0 : S8x2048.Transposes [1, 0] S2048x8
  reducesTo_S64x8_S64_d1 : S64x8.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  sliceFits_S64x8_S64x3 : S64x8.Slices (fun _ => 0) S64x3
  slices_S64x3_S64x1_0_0 : S64x3.Slices ![0, 0] S64x1
  shapeCasts_S64x1_S64 : S64x1.ShapeCasts S64
  slices_S64x3_S64x1_0_1 : S64x3.Slices ![0, 1] S64x1
  slices_S64x3_S64x1_0_2 : S64x3.Slices ![0, 2] S64x1
  dot_S64x2048_S2048x8_S64x8_1_0_0_1_n_n_wf : DotDims.WF S64x2048 S2048x8 S64x8 [1] [0] [0] [1] [] []

variable [Facts]

def dot_S64x2048_S2048x8_S64x8_1_0_0_1_n_n : DotDims S64x2048 S2048x8 S64x8 where
  lhsContracting := [1]
  rhsContracting := [0]
  lhsNonContracting := [0]
  rhsNonContracting := [1]
  lhsBatch := []
  rhsBatch := []
  wf := dot_S64x2048_S2048x8_S64x8_1_0_0_1_n_n_wf
def fn_part1 {F : FTy → Type} [FloatOps F] (main_values : FVec F S64x3 .f32) (main_v17 : IVec S64 1) (main_v18 : FVec F S64x1 .f32) : IVec S64 1 :=
  let main_v19 : FVec F S64 .f32 := shapeCast S64 main_v18 shapeCasts_S64x1_S64
  let main_v20 : FVec F S64x1 .f32 := (extractStridedSlice S64x1 ![0, 2] · slices_S64x3_S64x1_0_2) main_values
  let main_v21 : FVec F S64 .f32 := shapeCast S64 main_v20 shapeCasts_S64x1_S64
  let main_v22 : IVec S64 1 := cmpf .ogt main_v19 main_v21
  let main_v23 : IVec S64 1 := andi main_v17 main_v22
  main_v23

def fn {F : FTy → Type} [FloatOps F] (main_arg0 : FVec F S64x2048 .f32) (main_arg1 : FVec F S8x2048x2048 .f32) (main_arg2 : FVec F S8x2048x1024 .f32) (main_arg3 : FVec F S8x2048 .f32) : IVec S64 1 :=
  let main_v0 : FVec F S2048x8 .f32 := (transpose S2048x8 [1, 0] · transposes_S8x2048_S2048x8_1_0) main_arg3
  let main_v1 : FVec F S64x8 .f32 := (fun l r => Host.dotGeneral dot_S64x2048_S2048x8_S64x8_1_0_0_1_n_n none l r) main_arg0 main_v0
  let main_cst : FVec F S_ .f32 := constant S_ .f32 0xFF800000#32
  let main_v2 : FVec F S64 .f32 := (fun x v => Host.reduce FloatOps.maximumf x v reducesTo_S64x8_S64_d1 h_S_) main_v1 main_cst
  let main_cst_0 : FVec F S_ .f32 := constant S_ .f32 0xFF800000#32
  let main_v3 : FVec F S64 .f32 := broadcastInDim S64 ![] bcast_S_S64 main_cst_0
  let main_v4 : FVec F S64 .f32 := maximumf main_v3 main_v2
  let main_v5 : FVec F S64x1 .f32 := broadcastInDim S64x1 ![0] bcast_S64_S64x1_0 main_v4
  let main_v6 : FVec F S64x8 .f32 := broadcastInDim S64x8 ![0, 1] bcast_S64x1_S64x8_0_1 main_v5
  let main_v7 : FVec F S64x8 .f32 := subf main_v1 main_v6
  let main_v8 : FVec F S64x8 .f32 := Host.exp main_v7
  let main_cst_1 : FVec F S_ .f32 := constant S_ .f32 0x00000000#32
  let main_v9 : FVec F S64 .f32 := (fun x v => Host.reduceAdd x v reducesTo_S64x8_S64_d1 h_S_) main_v8 main_cst_1
  let main_v10 : FVec F S64x1 .f32 := broadcastInDim S64x1 ![0] bcast_S64_S64x1_0 main_v9
  let main_v11 : FVec F S64x8 .f32 := broadcastInDim S64x8 ![0, 1] bcast_S64x1_S64x8_0_1 main_v10
  let main_v12 : FVec F S64x8 .f32 := Host.divf main_v8 main_v11
  let main_values : FVec F S64x3 .f32 := (fun x => (Host.topK S64x3 1 (FloatOps.cmpfTotal .gt) x sliceFits_S64x8_S64x3).1) main_v12
  let main_indices : IVec S64x3 32 := (fun x => (Host.topK S64x3 1 (FloatOps.cmpfTotal .gt) x sliceFits_S64x8_S64x3).2) main_v12
  let main_v13 : FVec F S64x1 .f32 := (extractStridedSlice S64x1 ![0, 0] · slices_S64x3_S64x1_0_0) main_values
  let main_v14 : FVec F S64 .f32 := shapeCast S64 main_v13 shapeCasts_S64x1_S64
  let main_v15 : FVec F S64x1 .f32 := (extractStridedSlice S64x1 ![0, 1] · slices_S64x3_S64x1_0_1) main_values
  let main_v16 : FVec F S64 .f32 := shapeCast S64 main_v15 shapeCasts_S64x1_S64
  let main_v17 : IVec S64 1 := cmpf .ogt main_v14 main_v16
  let main_v18 : FVec F S64x1 .f32 := (extractStridedSlice S64x1 ![0, 1] · slices_S64x3_S64x1_0_1) main_values
  fn_part1 (F := F) main_values main_v17 main_v18
-- ==== Kernel.lean ====
abbrev S64x2048 : Shape := ⟨2, ![64, 2048]⟩
abbrev S8x2048x2048 : Shape := ⟨3, ![8, 2048, 2048]⟩
abbrev S8x2048x1024 : Shape := ⟨3, ![8, 2048, 1024]⟩
abbrev S8x2048 : Shape := ⟨2, ![8, 2048]⟩
abbrev S1x512x1024 : Shape := ⟨3, ![1, 512, 1024]⟩
abbrev S1x1024x512 : Shape := ⟨3, ![1, 1024, 512]⟩
abbrev S64x8 : Shape := ⟨2, ![64, 8]⟩
abbrev S64 : Shape := ⟨1, ![64]⟩
abbrev S64x1 : Shape := ⟨2, ![64, 1]⟩
abbrev S64x1024 : Shape := ⟨2, ![64, 1024]⟩
abbrev S512x1024 : Shape := ⟨2, ![512, 1024]⟩
abbrev S64x512 : Shape := ⟨2, ![64, 512]⟩
abbrev S1024x512 : Shape := ⟨2, ![1024, 512]⟩

abbrev nBuf : Space → Nat
  | .hbm => 5
  | .vmem => 17
  | .smem => 0
  | _ => 0

abbrev bufTy : (tb : Table) → Fin (tcTables nBuf tb) → BufTy
  | .hbm, ⟨0, _⟩ => ⟨S64x2048, .f32⟩
  | .hbm, ⟨1, _⟩ => ⟨S8x2048x2048, .f32⟩
  | .hbm, ⟨2, _⟩ => ⟨S8x2048x1024, .f32⟩
  | .hbm, ⟨3, _⟩ => ⟨S8x2048, .f32⟩
  | .hbm, ⟨4, _⟩ => ⟨S64x2048, .f32⟩
  | .local _ .vmem, ⟨0, _⟩ => ⟨S64x2048, .f32⟩
  | .local _ .vmem, ⟨1, _⟩ => ⟨S8x2048, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S64x2048, .f32⟩
  | .local _ .vmem, ⟨15, _⟩ => ⟨S64x8, .f32⟩
  | .local _ .vmem, ⟨16, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let c0_i32 : BitVec 32 := 0#32
  ![arg0.toNat, v0.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S64x2048 : Shape := ⟨2, ![64, 2048]⟩
abbrev S8x2048x2048 : Shape := ⟨3, ![8, 2048, 2048]⟩
abbrev S8x2048x1024 : Shape := ⟨3, ![8, 2048, 1024]⟩
abbrev S8x2048 : Shape := ⟨2, ![8, 2048]⟩
abbrev S2048x8 : Shape := ⟨2, ![2048, 8]⟩
abbrev S64x8 : Shape := ⟨2, ![64, 8]⟩
abbrev S_ : Shape := ⟨0, ![]⟩
abbrev S64 : Shape := ⟨1, ![64]⟩
abbrev S64x1 : Shape := ⟨2, ![64, 1]⟩
abbrev S64x2 : Shape := ⟨2, ![64, 2]⟩
abbrev S64x8x2048 : Shape := ⟨3, ![64, 8, 2048]⟩
abbrev S64x8x1024 : Shape := ⟨3, ![64, 8, 1024]⟩
abbrev S8x2048x64 : Shape := ⟨3, ![8, 2048, 64]⟩
abbrev S64x2x1 : Shape := ⟨3, ![64, 2, 1]⟩
abbrev S1 : Shape := ⟨1, ![1]⟩
abbrev S1x1x1 : Shape := ⟨3, ![1, 1, 1]⟩
abbrev S64x2x2048 : Shape := ⟨3, ![64, 2, 2048]⟩

abbrev nBuf : Space → Nat
  | .hbm => 70
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S8x2048x2048, .f32⟩
  | .hbm, ⟨2, _⟩ => ⟨S8x2048x1024, .f32⟩
  | .hbm, ⟨3, _⟩ => ⟨S8x2048, .f32⟩
  | .hbm, ⟨4, _⟩ => ⟨S2048x8, .f32⟩
  | .hbm, ⟨5, _⟩ => ⟨S64x8, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64x1, .f32⟩
  | .hbm, ⟨12, _⟩ => ⟨S64x8, .f32⟩
  | .hbm, ⟨13, _⟩ => ⟨S64x8, .f32⟩
  | .hbm, ⟨14, _⟩ => ⟨S64x8, .f32⟩
  | .hbm, ⟨15, _⟩ => ⟨S_, .f32⟩
  | .hbm, ⟨16, _⟩ => ⟨S64, .f32⟩
  | .hbm, ⟨17, _⟩ => ⟨S64x1, .f32⟩
  | .hbm, ⟨18, _⟩ => ⟨S64x8, .f32⟩
  | .hbm, ⟨19, _⟩ => ⟨S64x8, .f32⟩
  | .hbm, ⟨20, _⟩ => ⟨S64x2, .f32⟩
  | .hbm, ⟨21, _⟩ => ⟨S64x2, .i32⟩
  | .hbm, ⟨22, _⟩ => ⟨S_, .f32⟩
  | .hbm, ⟨23, _⟩ => ⟨S64, .f32⟩
  | .hbm, ⟨24, _⟩ => ⟨S64x1, .f32⟩
  | .hbm, ⟨25, _⟩ => ⟨S64x2, .f32⟩
  | .hbm, ⟨26, _⟩ => ⟨S64x2, .f32⟩
  | .hbm, ⟨27, _⟩ => ⟨S64x8x2048, .f32⟩
  | .hbm, ⟨28, _⟩ => ⟨S64x8x1024, .f32⟩
  | .hbm, ⟨29, _⟩ => ⟨S64x8x1024, .f32⟩
  | .hbm, ⟨30, _⟩ => ⟨S64x8x1024, .f32⟩
  | .hbm, ⟨31, _⟩ => ⟨S64x8x1024, .f32⟩
  | .hbm, ⟨32, _⟩ => ⟨S_, .f32⟩
  | .hbm, ⟨33, _⟩ => ⟨S64x8x1024, .f32⟩
  | .hbm, ⟨34, _⟩ => ⟨S64x8x1024, .f32⟩
  | .hbm, ⟨35, _⟩ => ⟨S_, .f32⟩
  | .hbm, ⟨36, _⟩ => ⟨S64x8x1024, .f32⟩
  | .hbm, ⟨37, _⟩ => ⟨S64x8x1024, .f32⟩
  | .hbm, ⟨38, _⟩ => ⟨S64x8x1024, .f32⟩
  | .hbm, ⟨39, _⟩ => ⟨S64x8x1024, .f32⟩
  | .hbm, ⟨40, _⟩ => ⟨S8x2048x64, .f32⟩
  | .hbm, ⟨41, _⟩ => ⟨S64x8x2048, .f32⟩
  | .hbm, ⟨42, _⟩ => ⟨S64x2x1, .i32⟩
  | .hbm, ⟨43, _⟩ => ⟨S_, .i32⟩
  | .hbm, ⟨44, _⟩ => ⟨S64x2x1, .i32⟩
  | .hbm, ⟨45, _⟩ => ⟨S64x2x1, .i1⟩
  | .hbm, ⟨46, _⟩ => ⟨S_, .i32⟩
  | .hbm, ⟨47, _⟩ => ⟨S64x2x1, .i32⟩
  | .hbm, ⟨48, _⟩ => ⟨S64x2x1, .i32⟩
  | .hbm, ⟨49, _⟩ => ⟨S64x2x1, .i32⟩
  | .hbm, ⟨50, _⟩ => ⟨S1, .i32⟩
  | .hbm, ⟨51, _⟩ => ⟨S_, .i32⟩
  | .hbm, ⟨52, _⟩ => ⟨S64x2x1, .i32⟩
  | .hbm, ⟨53, _⟩ => ⟨S64x2x1, .i1⟩
  | .hbm, ⟨54, _⟩ => ⟨S1x1x1, .i32⟩
  | .hbm, ⟨55, _⟩ => ⟨S64x2x1, .i32⟩
  | .hbm, ⟨56, _⟩ => ⟨S64x2x1, .i1⟩
  | .hbm, ⟨57, _⟩ => ⟨S64x2x1, .i1⟩
  | .hbm, ⟨58, _⟩ => ⟨S_, .i1⟩
  | .hbm, ⟨59, _⟩ => ⟨S64x2, .i1⟩
  | .hbm, ⟨60, _⟩ => ⟨S64x2x2048, .f32⟩
  | .hbm, ⟨61, _⟩ => ⟨S64x2x2048, .i1⟩
  | .hbm, ⟨62, _⟩ => ⟨S_, .f32⟩
  | .hbm, ⟨63, _⟩ => ⟨S64x2x2048, .f32⟩
  | .hbm, ⟨64, _⟩ => ⟨S64x2x2048, .f32⟩
  | .hbm, ⟨65, _⟩ => ⟨S64x2x1, .f32⟩
  | .hbm, ⟨66, _⟩ => ⟨S64x2x2048, .f32⟩
  | .hbm, ⟨67, _⟩ => ⟨S64x2x2048, .f32⟩
  | .hbm, ⟨68, _⟩ => ⟨S_, .f32⟩
  | .hbm, ⟨69, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_c_2 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_c_3 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_3 : Ref sig .tc := ⟨.hbm, 68, rfl⟩
abbrev main_v29 : Ref sig .tc := ⟨.hbm, 69, rfl⟩

abbrev nD : Nat := 1
abbrev τ : Topo := Topo.v7x

variable {F : FTy → Type} [FloatOps F]
-- ==== Proof.Gate.lean ====
/-
  ROUTING, FOR ONE ROW OF THE BATCH. Pure mathematics over the extended reals: the softmax of a row of eight logits, the
  two experts it selects when no two of its top three probabilities are equal, the weights of the two, and the facts that
  let a weight be moved in and out of a sum.
-/
module

public import Idealize.ShloMosaic.Lib.Pointwise
public import Idealize.ShloMosaic.Lib.IdealHost

@[expose] public section

noncomputable section

open Idealize.ShloMosaic

namespace Moe

/-- The softmax of eight logits: the exponentials of the differences to the largest, over their sum. -/
def prob (l : Fin 8 → EReal) (e : Fin 8) : EReal :=
  Ideal.div (Ideal.exp (l e - Finset.univ.fold max ⊥ l)) (∑ e', Ideal.exp (l e' - Finset.univ.fold max ⊥ l))

/-- `i₁` and `i₂` are the two top experts of a row, with no tie: the probability of `i₁` is above every other one, and
    that of `i₂` above every one but that of `i₁`. -/
structure TopTwo (p : Fin 8 → EReal) (i₁ i₂ : Fin 8) : Prop where
  ne : i₂ ≠ i₁
  fst : ∀ e, e ≠ i₁ → p e < p i₁
  snd : ∀ e, e ≠ i₁ → e ≠ i₂ → p e < p i₂

/-- The weight of expert `e` when `i₁` and `i₂` are selected: the share of its probability in the sum of the two. -/
def weight (p : Fin 8 → EReal) (i₁ i₂ e : Fin 8) : EReal :=
  if e = i₁ then Ideal.div (p i₁) (p i₁ + p i₂) else if e = i₂ then Ideal.div (p i₂) (p i₁ + p i₂) else 0

theorem exp_nonneg (x : EReal) : 0 ≤ Ideal.exp x := by
  induction x with
  | bot => exact le_of_eq rfl
  | top => exact le_top
  | coe r => exact EReal.coe_nonneg.mpr (Real.exp_pos r).le

/-- A nonnegative number over a nonnegative number that is not zero is nonnegative. -/
theorem div_nonneg {x y : EReal} (hx : 0 ≤ x) (hy : 0 ≤ y) (h0 : y ≠ 0) : 0 ≤ Ideal.div x y := by
  unfold Ideal.div
  rw [if_neg h0]
  exact mul_nonneg hx (EReal.inv_nonneg_of_nonneg hy)

/-- If two probabilities of a row differ then all of them are nonnegative: the exponentials' sum is not zero, a row of
    zeros over zero having all its entries equal. -/
theorem prob_nonneg {l : Fin 8 → EReal} {i j : Fin 8} (hij : prob l i < prob l j) (e : Fin 8) : 0 ≤ prob l e := by
  by_cases h0 : (∑ e', Ideal.exp (l e' - Finset.univ.fold max ⊥ l)) = 0
  · exfalso
    have hz : ∀ e, Ideal.exp (l e - Finset.univ.fold max ⊥ l) = 0 := fun e =>
      (Finset.sum_eq_zero_iff_of_nonneg fun e' _ => exp_nonneg _).mp h0 e (Finset.mem_univ e)
    unfold prob at hij
    rw [hz i, hz j] at hij
    exact lt_irrefl _ hij
  · exact div_nonneg (exp_nonneg _) (Finset.sum_nonneg fun _ _ => exp_nonneg _) h0

/-- A share `x / (x + y)` of two nonnegative numbers that are not both zero is nonnegative and finite. -/
theorem share_bounds {x s : EReal} (hx : 0 ≤ x) (hs : 0 < s) (hxs : x ≤ s) : 0 ≤ Ideal.div x s ∧ Ideal.div x s ≠ ⊤ := by
  refine ⟨div_nonneg hx hs.le hs.ne', ?_⟩
  unfold Ideal.div
  rw [if_neg hs.ne']
  induction s with
  | bot => exact absurd hs (by simp)
  | top => rw [EReal.inv_top, mul_zero]; exact EReal.zero_ne_top
  | coe s =>
    induction x with
    | bot => exact absurd hx (by simp)
    | top => exact absurd (top_le_iff.mp hxs) (EReal.coe_ne_top s)
    | coe x => rw [← EReal.coe_inv, ← EReal.coe_mul]; exact EReal.coe_ne_top _

/-- The weights of an untied row are nonnegative and finite. -/
theorem weight_bounds {l : Fin 8 → EReal} {i₁ i₂ : Fin 8} (h : TopTwo (prob l) i₁ i₂) (e : Fin 8) :
    0 ≤ weight (prob l) i₁ i₂ e ∧ weight (prob l) i₁ i₂ e ≠ ⊤ := by
  have hn := prob_nonneg (h.fst i₂ h.ne)
  have h1 : 0 < prob l i₁ := lt_of_le_of_lt (hn i₂) (h.fst i₂ h.ne)
  have hs : 0 < prob l i₁ + prob l i₂ := lt_of_lt_of_le h1 (le_add_of_nonneg_right (hn i₂))
  unfold weight
  split
  · exact share_bounds (hn i₁) hs (le_add_of_nonneg_right (hn i₂))
  · split
    · exact share_bounds (hn i₂) hs (le_add_of_nonneg_left (hn i₁))
    · exact ⟨le_rfl, EReal.zero_ne_top⟩

/-- A nonnegative finite factor moves out of a finite sum. -/
theorem mul_sum_of_bounds {ι : Type*} {c : EReal} (h0 : 0 ≤ c) (ht : c ≠ ⊤) (s : Finset ι) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The largest of a row, as the fold of `max` from the bottom, is any entry that is above all the others. -/
theorem fold_max_eq {p : Fin 8 → EReal} {i : Fin 8} (h : ∀ e, p e ≤ p i) : Finset.univ.fold max ⊥ p = p i := by
  apply le_antisymm
  · rw [Finset.fold_max_le]
    exact ⟨bot_le, fun e _ => h e⟩
  · rw [Finset.le_fold_max]
    exact Or.inr ⟨i, Finset.mem_univ i, le_rfl⟩

/-- The largest entry of an untied row. -/
theorem TopTwo.max_fst {p : Fin 8 → EReal} {i₁ i₂ : Fin 8} (h : TopTwo p i₁ i₂) : Finset.univ.fold max ⊥ p = p i₁ :=
  fold_max_eq fun e => by
    by_cases he : e = i₁
    · rw [he]
    · exact (h.fst e he).le

/-- A row with the entry of `i₁` replaced by the bottom. -/
def without (p : Fin 8 → EReal) (i₁ : Fin 8) (e : Fin 8) : EReal := if e = i₁ then ⊥ else p e

theorem without_ne {p : Fin 8 → EReal} {i₁ e : Fin 8} (h : e ≠ i₁) : without p i₁ e = p e := if_neg h

/-- With the largest entry of an untied row taken out, the second is strictly above all the others. -/
theorem TopTwo.without_lt {p : Fin 8 → EReal} {i₁ i₂ : Fin 8} (h : TopTwo p i₁ i₂) (e : Fin 8) (he : e ≠ i₂) :
    without p i₁ e < without p i₁ i₂ := by
  obtain ⟨e₃, h₁, h₂⟩ : ∃ e₃ : Fin 8, e₃ ≠ i₁ ∧ e₃ ≠ i₂ := by
    have : ∀ a b : Fin 8, ∃ c : Fin 8, c ≠ a ∧ c ≠ b := by decide
    exact this i₁ i₂
  rw [without_ne h.ne]
  by_cases he₁ : e = i₁
  · rw [without, if_pos he₁]
    exact lt_of_le_of_lt bot_le (h.snd e₃ h₁ h₂)
  · rw [without_ne he₁]
    exact h.snd e he₁ he

/-- The largest entry once the largest is taken out. -/
theorem TopTwo.max_snd {p : Fin 8 → EReal} {i₁ i₂ : Fin 8} (h : TopTwo p i₁ i₂) :
    Finset.univ.fold max ⊥ (without p i₁) = p i₂ := by
  rw [fold_max_eq (i := i₂) fun e => ?_, without_ne h.ne]
  by_cases he : e = i₂
  · rw [he]
  · exact (h.without_lt e he).le

end Moe

end
-- ==== Proof.Spec.lean ====
/-
  THE LAYER, WRITTEN OUT. Over the extended reals, at one entry: the router's logits, an expert's two projections of a row
  of the batch, its gated activation, and the layer's result when a row's two top experts are known.
-/
module

public import Idealize.ShloMosaic.Lib.Pointwise
public import proofs.«01_k».proof.Proof.Gate

@[expose] public section

noncomputable section

open Idealize.ShloMosaic

namespace Moe

/-- The pattern of minus infinity is the bottom. -/
theorem negInf : Ideal.ofBits .f32 0xFF800000#32 = ⊥ := by
  simp [Ideal.ofBits, Ideal.ieee]

/-- A matrix, and a three-axis array, of extended reals. -/
abbrev Arr2 (a b : Nat) := (⟨2, ![a, b]⟩ : Shape).Idx → EReal
abbrev Arr3 (a b c : Nat) := (⟨3, ![a, b, c]⟩ : Shape).Idx → EReal

variable (x : Arr2 64 2048) (w1 : Arr3 8 2048 2048) (w2 : Arr3 8 2048 1024) (wg : Arr2 8 2048)

/-- The router's logits of row `b`. -/
def logit (b : Fin 64) (e : Fin 8) : EReal := ∑ k : Fin 2048, x (ix2 b k) * wg (ix2 e k)

/-- Row `r` of expert `e`'s first weight matrix, against row `b` of the batch. -/
def proj (b : Fin 64) (e : Fin 8) (r : Fin 2048) : EReal := ∑ k : Fin 2048, x (ix2 b k) * w1 (ix3 e r k)

/-- The first half of the rows of the first weight matrix (the gate's), and the second half. -/
def gateRow (f : Fin 1024) : Fin 2048 := ⟨f.val, by omega⟩
def upRow (f : Fin 1024) : Fin 2048 := ⟨1024 + f.val, by omega⟩

/-- Expert `e`'s gated activation `f` of row `b`: the gate's projection, times its logistic, times the other projection. -/
def act (b : Fin 64) (e : Fin 8) (f : Fin 1024) : EReal :=
  proj x w1 b e (gateRow f) * Ideal.logistic (proj x w1 b e (gateRow f)) * proj x w1 b e (upRow f)

/-- Expert `e`'s output `h` of row `b`. -/
def expert (b : Fin 64) (e : Fin 8) (h : Fin 2048) : EReal := ∑ f : Fin 1024, act x w1 b e f * w2 (ix3 e h f)

/-- The layer's output `h` of row `b`, its two experts being `i₁` and `i₂`: the sum of their outputs, weighted. -/
def result (i₁ i₂ : Fin 8) (b : Fin 64) (h : Fin 2048) : EReal :=
  weight (prob (logit x wg b)) i₁ i₂ i₁ * expert x w1 w2 b i₁ h + weight (prob (logit x wg b)) i₁ i₂ i₂ * expert x w1 w2 b i₂ h

/-- A sum over 2048 columns, cut in its two halves. -/
theorem sum_halves (f : Fin 2048 → EReal) :
    ∑ k : Fin 2048, f k = ∑ k : Fin 1024, f (gateRow k) + ∑ k : Fin 1024, f (upRow k) :=
  Fin.sum_univ_add (a := 1024) (b := 1024) f

end Moe

end
-- ==== Proof.Payload.lean ====
/-
  THE KERNEL'S EXPRESSIONS AT AN INDEX. What the vector expressions of the kernel's body are, over the extended reals, at
  one index: the softmax of the router's logits, the routing weights of an untied row, the gated activations of one block
  of 512 rows of an expert, and a half of the output with one grid point's contribution added.
-/
module

public import proofs.«01_k».proof.Defs
public import proofs.«01_k».proof.Proof.Gen.KernelIdeal.Value
public import proofs.«01_k».proof.Proof.Spec
public import Idealize.ShloMosaic.Lib.Pipeline.Value
public import Idealize.ShloMosaic.Lib.Tactic
public import Idealize.ShloMosaic.Lib.Pointwise
public import Idealize.ShloMosaic.Lib.StableHlo.Predicate

@[expose] public section

noncomputable section

open Idealize.ShloMosaic Moe

namespace Cert.KernelIdeal.Point

open Cert.KernelIdeal Cert.KernelIdeal.Gen

/-- The position of the largest of a row that one entry exceeds all the others of, is that entry's. -/
theorem reduceIndex_eq {p : FVec Ideal S64x8 .f32} (h : S64x8.Reduces [1] S64) {b : Fin 64} {e₀ : Fin 8}
    (hp : ∀ e, e ≠ e₀ → p (ix2 b e) < p (ix2 b e₀)) :
    reduceIndex .argMax 1 S64 p h (ix1 b) = BitVec.ofNat 32 e₀.val := by
  have hf : ∀ i : S64x8.Idx, h.drop i = ix1 b ↔ ∃ e : Fin 8, ix2 b e = i := Shape.Reduces.fiber_r2_a1 h (ix1 b)
  have key : (Finset.univ.filter (fun i : S64x8.Idx => h.drop i = ix1 b)).filter
      (fun i => ∀ i' ∈ Finset.univ.filter (fun i : S64x8.Idx => h.drop i = ix1 b), ¬ (p i < p i')) = {ix2 b e₀} := by
    ext i
    simp only [Finset.mem_filter, Finset.mem_univ, true_and, Finset.mem_singleton, hf]
    constructor
    · rintro ⟨⟨e, rfl⟩, hi⟩
      by_contra hne
      exact hi (ix2 b e₀) ⟨e₀, rfl⟩ (hp e fun he => hne (by rw [he]))
    · rintro rfl
      refine ⟨⟨e₀, rfl⟩, ?_⟩
      rintro _ ⟨e, rfl⟩
      by_cases he : e = e₀
      · rw [he]; exact lt_irrefl _
      · exact (hp e he).not_gt
  show Ideal.reduceIndex .argMax 1 h p (ix1 b) = _
  unfold Ideal.reduceIndex
  simp only [if_true]
  rw [key]
  rfl

/-- Two expert numbers are equal as words exactly when they are equal. -/
theorem word_eq (e e' : Fin 8) : IntOp.cmpi .eq (BitVec.ofNat 32 e.val) (BitVec.ofNat 32 e'.val) = if e = e' then 1#1 else 0#1 := by
  revert e e'; decide

/-- A choice on a comparison of two expert numbers. -/
theorem select_word (e e' : Fin 8) (u v : EReal) :
    Scalar.select (IntOp.cmpi .eq (BitVec.ofNat 32 e.val) (BitVec.ofNat 32 e'.val)) u v = if e = e' then u else v := by
  rw [word_eq]
  by_cases h : e = e'
  · rw [if_pos h, if_pos h]; rfl
  · rw [if_neg h, if_neg h]; rfl

/-- The kernel's softmax, at row `b` and expert `e`. -/
theorem pay5_apply (x : FVec Ideal S64x2048 .f32) (wg : FVec Ideal S8x2048 .f32) (b : Fin 64) (e : Fin 8) :
    k0_pay5 (F := Ideal) x wg (ix2 b e) = prob (logit x wg b) e := by
  pointwise [k0_pay5, negInf]
  rfl

section Route

variable {x : FVec Ideal S64x2048 .f32} {wg : FVec Ideal S8x2048 .f32} {b : Fin 64} {i₁ i₂ : Fin 8}
  (ht : TopTwo (prob (logit x wg b)) i₁ i₂)

include ht

/-- The first selected expert of an untied row. -/
theorem pay6_eq : k0_pay6 (F := Ideal) x wg (ix1 b) = BitVec.ofNat 32 i₁.val := by
  unfold k0_pay6
  exact reduceIndex_eq _ fun e he => by rw [pay5_apply, pay5_apply]; exact ht.fst e he

/-- The probabilities with the first selected expert's taken out. -/
theorem pay8_apply (e : Fin 8) : k0_pay8 (F := Ideal) x wg (ix2 b e) = without (prob (logit x wg b)) i₁ e := by
  pointwise [k0_pay8]
  rw [pay6_eq ht, select_word, pay5_apply, negInf]
  rfl

/-- The largest probability of an untied row, and the next. -/
theorem pay7_eq : k0_pay7 (F := Ideal) x wg (ix1 b) = prob (logit x wg b) i₁ := by
  pointwise [k0_pay7]
  simp only [pay5_apply, negInf]
  exact ht.max_fst

theorem pay9_eq : k0_pay9 (F := Ideal) x wg (ix1 b) = prob (logit x wg b) i₂ := by
  pointwise [k0_pay9]
  simp only [pay8_apply ht, negInf]
  exact ht.max_snd

/-- The routing weights the kernel keeps for an untied row. -/
theorem pay14_apply (e : Fin 8) :
    k0_pay14 (F := Ideal) (k0_pay11 (F := Ideal) x wg) (k0_pay12 (F := Ideal) x wg) (k0_pay13 (F := Ideal) x wg) (ix2 b e)
      = weight (prob (logit x wg b)) i₁ i₂ e := by
  have hi : reduceIndex .argMax 1 S64 (k0_pay8 (F := Ideal) x wg) reduces_S64x8_S64 (ix1 b) = BitVec.ofNat 32 i₂.val :=
    reduceIndex_eq _ fun e he => by rw [pay8_apply ht, pay8_apply ht]; exact ht.without_lt e he
  unfold k0_pay14 k0_pay11 k0_pay12 k0_pay13 k0_pay10
  pointwise
  rw [hi, pay6_eq ht, pay7_eq ht, pay9_eq ht, select_word, select_word]
  unfold weight
  by_cases h₁ : e = i₁
  · have h₂ : e ≠ i₂ := fun h => ht.ne (h.symm.trans h₁)
    rw [if_pos h₁, if_neg h₂, if_pos h₁, add_zero]
  · rw [if_neg h₁, if_neg h₁, zero_add]

end Route

/-- The mask of a grid point: the columns of the expert it works on. -/
theorem pay17_apply (i : grid0.Coords) (e₀ : Fin 8) (hi : (i 0).val = e₀.val) (b : Fin 64) (e : Fin 8) (u v : EReal) :
    Scalar.select (k0_pay17 i (ix2 b e)) u v = if e = e₀ then u else v := by
  pointwise [k0_pay17]
  rw [hi, select_word]

/-- The kernel's copy of the batch, kept in a shorter format: over the extended reals the batch itself. -/
theorem pay4_apply (x : FVec Ideal S64x2048 .f32) (b : Fin 64) (h : Fin 2048) :
    k0_pay4 (F := Ideal) x (ix2 b h) = x (ix2 b h) := by
  pointwise [k0_pay4]

/-- The kernel's reset output. -/
theorem pay15_apply (b : Fin 64) (h : Fin 2048) : k0_pay15 (F := Ideal) (ix2 b h) = 0 := by
  pointwise [k0_pay15]

/-- A projection computed in the two halves of its columns. -/
def halves (x : FVec Ideal S64x2048 .bf16) (wa wb : FVec Ideal S1x512x1024 .f32) (b : Fin 64) (f : Fin 512) : EReal :=
  ∑ k : Fin 1024, x (ix2 b (gateRow k)) * wa (ix3 0 f k) + ∑ k : Fin 1024, x (ix2 b (upRow k)) * wb (ix3 0 f k)

/-- The activations of one block of 512 of an expert's rows. -/
theorem pay16_apply (xb : FVec Ideal S64x2048 .bf16) (ga gb ua ub : FVec Ideal S1x512x1024 .f32) (b : Fin 64) (f : Fin 512) :
    k0_pay16 (F := Ideal) xb ga gb ua ub (ix2 b f)
      = halves xb ga gb b f * Ideal.logistic (halves xb ga gb b f) * halves xb ua ub b f := by
  pointwise [k0_pay16]
  rfl

/-- What a grid point adds at output column `h`, of a half of the columns: the activations, scaled by the masked weights,
    against that half's rows of the second weight matrix. -/
def added (a : FVec Ideal S64x512 .f32) (mask : IVec S64x8 1) (cw : FVec Ideal S64x8 .f32)
    (w : FVec Ideal S1x1024x512 .f32) (b : Fin 64) (h : Fin 1024) : EReal :=
  ∑ f : Fin 512, (a (ix2 b f) * ∑ e : Fin 8, Scalar.select (mask (ix2 b e)) (cw (ix2 b e)) 0) * w (ix3 0 h f)

/-- The left half of the output, with a grid point's contribution added. -/
theorem pay2_apply (a : FVec Ideal S64x512 .f32) (mask : IVec S64x8 1) (cw : FVec Ideal S64x8 .f32)
    (w : FVec Ideal S1x1024x512 .f32) (o : FVec Ideal S64x1024 .f32) (b : Fin 64) (h : Fin 1024) :
    k0_pay2 (F := Ideal) a mask cw (FloatOps.ofBits .f32 0#32) w o (ix2 b h) = o (ix2 b h) + added a mask cw w b h := by
  pointwise [k0_pay2, k0_pay1]
  rfl

/-- The right half. -/
theorem pay3_apply (a : FVec Ideal S64x512 .f32) (mask : IVec S64x8 1) (cw : FVec Ideal S64x8 .f32)
    (w : FVec Ideal S1x1024x512 .f32) (o : FVec Ideal S64x1024 .f32) (b : Fin 64) (h : Fin 1024) :
    k0_pay3 (F := Ideal) a mask cw (FloatOps.ofBits .f32 0#32) w o (ix2 b h) = o (ix2 b h) + added a mask cw w b h := by
  pointwise [k0_pay3, k0_pay1]
  rfl

end Cert.KernelIdeal.Point

end
-- ==== Proof.Point.lean ====
/-
  WHAT ONE GRID POINT LEAVES. The kernel's body at one grid point, as vector expressions of the blocks it is given:
  the routing weights and the activations it stores in the carried scratch at the first point, and the output block
  with this point's contribution added.
-/
module

public import proofs.«01_k».proof.Defs
public import proofs.«01_k».proof.Proof.Gen.KernelIdeal.Value
public import Idealize.ShloMosaic.Lib.Pipeline.Value
public import Idealize.ShloMosaic.Lib.Tactic
public import Idealize.ShloMosaic.Lib.Pointwise
public import Idealize.ShloMosaic.Lib.WritesUnit
public import proofs.«01_k».proof.Proof.Payload

@[expose] public section

noncomputable section

open Moe Idealize.ShloMosaic Idealize.ShloMosaic.TcCoe Idealize.SL.Sem

namespace Cert.KernelIdeal.Point

open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

section Halves

variable {sig' : RefSig} {κ : Kind} {sp : Space} (v : View sig' κ sp S64x2048 .f32) (g : v.ty.Contents (Elt Ideal))
  (r l : FVec Ideal S64x1024 .f32) (L : List (View.Piece (Elt Ideal) S64x2048 .f32))

/-- A left half stored last, at a column of the left half. -/
theorem read_left (b : Fin 64) (h : Fin 1024) :
    v.read (Elt Ideal) (v.writes (Elt Ideal) g
      (⟨Rect.unit ![0, 0] S64x1024.size inb_S64x2048_S64x1024_0_0, l⟩ :: L)) (ix2 b (gateRow h)) = l (ix2 b h) :=
  View.read_writes_cons_unit_of_mem v g inb_S64x2048_S64x1024_0_0 l L (ix2 b (gateRow h)) (ix2 b h) rfl
    (Fin.forall_fin_two.mpr ⟨(Nat.zero_add _).symm, (Nat.zero_add _).symm⟩)

/-- A left half stored last leaves the columns of the right half. -/
theorem read_left_up (b : Fin 64) (h : Fin 1024) :
    v.read (Elt Ideal) (v.writes (Elt Ideal) g
      (⟨Rect.unit ![0, 0] S64x1024.size inb_S64x2048_S64x1024_0_0, l⟩ :: L)) (ix2 b (upRow h))
      = v.read (Elt Ideal) (v.writes (Elt Ideal) g L) (ix2 b (upRow h)) :=
  View.read_writes_cons_unit_of_not_mem v g inb_S64x2048_S64x1024_0_0 l L (ix2 b (upRow h)) rfl (1 : Fin 2)
    (Or.inr (show 0 + 1024 ≤ 1024 + h.val by omega))

/-- A right half stored last, at a column of the right half. -/
theorem read_right (b : Fin 64) (h : Fin 1024) :
    v.read (Elt Ideal) (v.writes (Elt Ideal) g
      (⟨Rect.unit ![0, 1024] S64x1024.size inb_S64x2048_S64x1024_0_1024, r⟩ :: L)) (ix2 b (upRow h)) = r (ix2 b h) :=
  View.read_writes_cons_unit_of_mem v g inb_S64x2048_S64x1024_0_1024 r L (ix2 b (upRow h)) (ix2 b h) rfl
    (Fin.forall_fin_two.mpr ⟨(Nat.zero_add _).symm, rfl⟩)

/-- A right half stored last leaves the columns of the left half. -/
theorem read_right_low (b : Fin 64) (h : Fin 1024) :
    v.read (Elt Ideal) (v.writes (Elt Ideal) g
      (⟨Rect.unit ![0, 1024] S64x1024.size inb_S64x2048_S64x1024_0_1024, r⟩ :: L)) (ix2 b (gateRow h))
      = v.read (Elt Ideal) (v.writes (Elt Ideal) g L) (ix2 b (gateRow h)) :=
  View.read_writes_cons_unit_of_not_mem v g inb_S64x2048_S64x1024_0_1024 r L (ix2 b (gateRow h)) rfl (1 : Fin 2)
    (Or.inl (show h.val < 1024 from h.isLt))

/-- A load of the left half of a block, and of the right half. -/
theorem ld_left (X : FVec Ideal S64x2048 .f32) (b : Fin 64) (h : Fin 1024) :
    View.ld (e' := EltTy.f32) (Val := Elt Ideal) (S := S64x2048) X (Rect.unit ![0, 0] S64x1024.size inb_S64x2048_S64x1024_0_0) (ix2 b h) = X (ix2 b (gateRow h)) :=
  congrArg X (funext (Fin.forall_fin_two.mpr
    ⟨Fin.ext (show 0 + 1 * b.val = b.val by omega), Fin.ext (show 0 + 1 * h.val = h.val by omega)⟩))

theorem ld_right (X : FVec Ideal S64x2048 .f32) (b : Fin 64) (h : Fin 1024) :
    View.ld (e' := EltTy.f32) (Val := Elt Ideal) (S := S64x2048) X (Rect.unit ![0, 1024] S64x1024.size inb_S64x2048_S64x1024_0_1024) (ix2 b h) = X (ix2 b (upRow h)) :=
  congrArg X (funext (Fin.forall_fin_two.mpr
    ⟨Fin.ext (show 0 + 1 * b.val = b.val by omega), Fin.ext (show 1024 + 1 * h.val = 1024 + h.val by omega)⟩))

/-- A whole block stored last. -/
theorem read_whole (X : FVec Ideal S64x2048 .f32) (b : Fin 64) (h : Fin 2048) :
    v.read (Elt Ideal) (v.writes (Elt Ideal) g
      (⟨Rect.unit ![0, 0] S64x2048.size inb_S64x2048_S64x2048_0_0, X⟩ :: L)) (ix2 b h) = X (ix2 b h) :=
  View.read_writes_cons_unit_of_mem v g inb_S64x2048_S64x2048_0_0 X L (ix2 b h) (ix2 b h) rfl
    (Fin.forall_fin_two.mpr ⟨(Nat.zero_add _).symm, (Nat.zero_add _).symm⟩)

end Halves

section Cases

variable (c : Dev nD) (i : grid0.Coords)
  (a2 : Memref sig .tc .vmem S64x2048 .f32) (h2 : a2.IsWhole) (a3 : Memref sig .tc .vmem S8x2048 .f32) (h3 : a3.IsWhole)
  (a4 : Memref sig .tc .vmem S1x512x1024 .f32) (h4 : a4.IsWhole) (a5 : Memref sig .tc .vmem S1x512x1024 .f32) (h5 : a5.IsWhole)
  (a6 : Memref sig .tc .vmem S1x512x1024 .f32) (h6 : a6.IsWhole) (a7 : Memref sig .tc .vmem S1x512x1024 .f32) (h7 : a7.IsWhole)
  (a8 : Memref sig .tc .vmem S1x1024x512 .f32) (h8 : a8.IsWhole) (a9 : Memref sig .tc .vmem S1x1024x512 .f32) (h9 : a9.IsWhole)
  (a10 : Memref sig .tc .vmem S64x2048 .f32) (h10 : a10.IsWhole) (a11 : Memref sig .tc .vmem S64x8 .f32) (h11 : a11.IsWhole)
  (a12 : Memref sig .tc .vmem S64x2048 .bf16) (h12 : a12.IsWhole)
  (x : FVec Ideal S64x2048 .f32) (wg : FVec Ideal S8x2048 .f32) (ga gb ua ub : FVec Ideal S1x512x1024 .f32)
  (wa wb : FVec Ideal S1x1024x512 .f32) (xo : FVec Ideal S64x2048 .f32) (cw : FVec Ideal S64x8 .f32) (xb : FVec Ideal S64x2048 .bf16)

/-- At a grid point that is not the first, at a column of the left half of the output: the entry the point before left,
    with this point's contribution added. -/
theorem out_B_left (hc : ¬cond0_0 i) (b : Fin 64) (h : Fin 1024) :
    out0_B_8 (F := Ideal) c i a2 h2 a3 h3 a4 h4 a5 h5 a6 h6 a7 h7 a8 h8 a9 h9 a10 h10 a11 h11 a12 h12 hc x wg ga gb ua ub wa wb xo cw xb (ix2 b (gateRow h))
      = xo (ix2 b (gateRow h)) + added (k0_pay16 (F := Ideal) xb ga gb ua ub) (k0_pay17 i) cw wa b h := by
  unfold out0_B_8 kernelRun0_B
  dsimp only
  sl_unfold_words
  rw [read_right_low, read_left]
  simp only [View.readAt_eq_ld, h2.read_unread, h3.read_unread, h4.read_unread, h5.read_unread, h6.read_unread, h7.read_unread, h8.read_unread, h9.read_unread, h10.read_unread, h11.read_unread, h12.read_unread, View.ld_unit_zero (S := S64x2048) hz2, View.ld_unit_zero (S := S8x2048) hz2, View.ld_unit_zero (S := S64x8) hz2, View.ld_unit_zero (S := S1x512x1024) hz3, View.ld_unit_zero (S := S1x1024x512) hz3]
  rw [pay2_apply, ld_left]

/-- At a column of the right half. -/
theorem out_B_right (hc : ¬cond0_0 i) (b : Fin 64) (h : Fin 1024) :
    out0_B_8 (F := Ideal) c i a2 h2 a3 h3 a4 h4 a5 h5 a6 h6 a7 h7 a8 h8 a9 h9 a10 h10 a11 h11 a12 h12 hc x wg ga gb ua ub wa wb xo cw xb (ix2 b (upRow h))
      = xo (ix2 b (upRow h)) + added (k0_pay16 (F := Ideal) xb ga gb ua ub) (k0_pay17 i) cw wb b h := by
  unfold out0_B_8 kernelRun0_B
  dsimp only
  sl_unfold_words
  rw [read_right]
  simp only [View.readAt_eq_ld, h2.read_unread, h3.read_unread, h4.read_unread, h5.read_unread, h6.read_unread, h7.read_unread, h8.read_unread, h9.read_unread, h10.read_unread, h11.read_unread, h12.read_unread, View.ld_unit_zero (S := S64x2048) hz2, View.ld_unit_zero (S := S8x2048) hz2, View.ld_unit_zero (S := S64x8) hz2, View.ld_unit_zero (S := S1x512x1024) hz3, View.ld_unit_zero (S := S1x1024x512) hz3]
  rw [pay3_apply, ld_right]

/-- The routing weights the first grid point leaves in the carried scratch. -/
theorem sout_A_0 (hc : cond0_0 i) :
    sout0_A_0 (F := Ideal) c i a2 h2 a3 h3 a4 h4 a5 h5 a6 h6 a7 h7 a8 h8 a9 h9 a10 h10 a11 h11 a12 h12 hc x wg ga gb ua ub wa wb
      = k0_pay14 (F := Ideal) (k0_pay11 (F := Ideal) x wg) (k0_pay12 (F := Ideal) x wg) (k0_pay13 (F := Ideal) x wg) := by
  unfold sout0_A_0
  rw [View.read_writes_eq_canon _ _ _ (scover0_A_0 (F := Ideal) c i a2 h2 a3 h3 a4 h4 a5 h5 a6 h6 a7 h7 a8 h8 a9 h9 a10 h10 a11 h11 a12 h12 hc x wg ga gb ua ub wa wb)]
  unfold kernelRun0_A
  dsimp only
  sl_unfold_words
  rw [View.canon_unit_zero (S := S64x8) hz2]
  simp only [View.readAt_eq_ld, h2.read_unread, h3.read_unread, h4.read_unread, h5.read_unread, h6.read_unread, h7.read_unread, h8.read_unread, h9.read_unread, h10.read_unread, h11.read_unread, h12.read_unread, View.ld_unit_zero (S := S64x2048) hz2, View.ld_unit_zero (S := S8x2048) hz2, View.ld_unit_zero (S := S64x8) hz2, View.ld_unit_zero (S := S1x512x1024) hz3, View.ld_unit_zero (S := S1x1024x512) hz3]

/-- The copy of the batch the first grid point leaves in the carried scratch. -/
theorem sout_A_1 (hc : cond0_0 i) : sout0_A_1 (F := Ideal) c i a2 h2 a3 h3 a4 h4 a5 h5 a6 h6 a7 h7 a8 h8 a9 h9 a10 h10 a11 h11 a12 h12 hc x wg ga gb ua ub wa wb = k0_pay4 (F := Ideal) x := by
  unfold sout0_A_1
  rw [View.read_writes_eq_canon _ _ _ (scover0_A_1 (F := Ideal) c i a2 h2 a3 h3 a4 h4 a5 h5 a6 h6 a7 h7 a8 h8 a9 h9 a10 h10 a11 h11 a12 h12 hc x wg ga gb ua ub wa wb)]
  unfold kernelRun0_A
  dsimp only
  sl_unfold_words
  rw [View.canon_unit_zero (S := S64x2048) hz2]
  simp only [View.readAt_eq_ld, h2.read_unread, h3.read_unread, h4.read_unread, h5.read_unread, h6.read_unread, h7.read_unread, h8.read_unread, h9.read_unread, h10.read_unread, h11.read_unread, h12.read_unread, View.ld_unit_zero (S := S64x2048) hz2, View.ld_unit_zero (S := S8x2048) hz2, View.ld_unit_zero (S := S64x8) hz2, View.ld_unit_zero (S := S1x512x1024) hz3, View.ld_unit_zero (S := S1x1024x512) hz3]

/-- At the first grid point, at a column of the left half of the output: zero, with this point's contribution added. -/
theorem out_A_left (hc : cond0_0 i) (b : Fin 64) (h : Fin 1024) :
    out0_A_8 (F := Ideal) c i a2 h2 a3 h3 a4 h4 a5 h5 a6 h6 a7 h7 a8 h8 a9 h9 a10 h10 a11 h11 a12 h12 hc x wg ga gb ua ub wa wb (ix2 b (gateRow h))
      = 0 + added (k0_pay16 (F := Ideal) (k0_pay4 (F := Ideal) x) ga gb ua ub) (k0_pay17 i)
          (k0_pay14 (F := Ideal) (k0_pay11 (F := Ideal) x wg) (k0_pay12 (F := Ideal) x wg) (k0_pay13 (F := Ideal) x wg)) wa b h := by
  unfold out0_A_8 kernelRun0_A
  dsimp only
  sl_unfold_words
  rw [read_right_low, read_left]
  simp only [View.readAt_eq_ld, h2.read_unread, h3.read_unread, h4.read_unread, h5.read_unread, h6.read_unread, h7.read_unread, h8.read_unread, h9.read_unread, h10.read_unread, h11.read_unread, h12.read_unread, View.ld_unit_zero (S := S64x2048) hz2, View.ld_unit_zero (S := S8x2048) hz2, View.ld_unit_zero (S := S64x8) hz2, View.ld_unit_zero (S := S1x512x1024) hz3, View.ld_unit_zero (S := S1x1024x512) hz3, View.readCov_unit_zero (S := S64x8) _ hz2, View.readCov_unit_zero (S := S64x2048) _ hz2]
  rw [pay2_apply]
  congr 1
  rw [View.readCov, View.readAt_eq_ld, ld_left, read_whole, pay15_apply]

/-- At a column of the right half. -/
theorem out_A_right (hc : cond0_0 i) (b : Fin 64) (h : Fin 1024) :
    out0_A_8 (F := Ideal) c i a2 h2 a3 h3 a4 h4 a5 h5 a6 h6 a7 h7 a8 h8 a9 h9 a10 h10 a11 h11 a12 h12 hc x wg ga gb ua ub wa wb (ix2 b (upRow h))
      = 0 + added (k0_pay16 (F := Ideal) (k0_pay4 (F := Ideal) x) ga gb ua ub) (k0_pay17 i)
          (k0_pay14 (F := Ideal) (k0_pay11 (F := Ideal) x wg) (k0_pay12 (F := Ideal) x wg) (k0_pay13 (F := Ideal) x wg)) wb b h := by
  unfold out0_A_8 kernelRun0_A
  dsimp only
  sl_unfold_words
  rw [read_right]
  simp only [View.readAt_eq_ld, h2.read_unread, h3.read_unread, h4.read_unread, h5.read_unread, h6.read_unread, h7.read_unread, h8.read_unread, h9.read_unread, h10.read_unread, h11.read_unread, h12.read_unread, View.ld_unit_zero (S := S64x2048) hz2, View.ld_unit_zero (S := S8x2048) hz2, View.ld_unit_zero (S := S64x8) hz2, View.ld_unit_zero (S := S1x512x1024) hz3, View.ld_unit_zero (S := S1x1024x512) hz3, View.readCov_unit_zero (S := S64x8) _ hz2, View.readCov_unit_zero (S := S64x2048) _ hz2]
  rw [pay3_apply]
  congr 1
  rw [View.readCov, View.readAt_eq_ld, ld_right, read_left_up, read_whole, pay15_apply]

end Cases

end Cert.KernelIdeal.Point

end
-- ==== Proof.Blocks.lean ====
/-
  WHAT EACH GRID POINT READS AND ADDS. Point `t` of the sixteen works on expert `t / 2` and on the block `t % 2` of its
  1024 activations: the blocks of the four arrays it is given, at an index, and its contribution to the output.
-/
module

public import proofs.«01_k».proof.Proof.Point

@[expose] public section

noncomputable section

open Idealize.ShloMosaic Idealize.ShloMosaic.TcCoe Idealize.SL.Sem Moe

namespace Cert.KernelIdeal.Point

open Cert.KernelIdeal Cert.KernelIdeal.Gen

variable (m : (ℓ : Loc nD τ sig) → Buf (Elt Ideal) ℓ) (c : Dev nD)

/-- The four arrays the kernel is given: the batch, the experts' two weight matrices, the router's. -/
def X : Arr2 64 2048 := m ((c : Thread nD τ).loc main_arg0)
def W1 : Arr3 8 2048 2048 := m ((c : Thread nD τ).loc main_arg1)
def W2 : Arr3 8 2048 1024 := m ((c : Thread nD τ).loc main_arg2)
def Wg : Arr2 8 2048 := m ((c : Thread nD τ).loc main_arg3)

theorem lt16 (t : Fin cfg0.N) : t.val < 16 := lt_of_lt_of_eq t.isLt (show cfg0.N = 16 from N_0)

/-- The expert of grid point `t`, and its activation `f`. -/
def ex (t : Fin cfg0.N) : Fin 8 := ⟨t.val / 2, by have := lt16 t; omega⟩
def row (t : Fin cfg0.N) (f : Fin 512) : Fin 1024 := ⟨512 * (t.val % 2) + f.val, by omega⟩

/-- The block numbers of the operands at grid point `t`, decided over the grid. -/
theorem idx_facts : ∀ t : Fin cfg0.N,
    (win0_0.index t = ![0, 0] ∧ win0_1.index t = ![0, 0]) ∧
    (win0_2.index t = ![t.val / 2, t.val % 2, 0] ∧ win0_3.index t = ![t.val / 2, t.val % 2, 1]) ∧
    (win0_4.index t = ![t.val / 2, t.val % 2 + 2, 0] ∧ win0_5.index t = ![t.val / 2, t.val % 2 + 2, 1]) ∧
    (win0_6.index t = ![t.val / 2, 0, t.val % 2] ∧ win0_7.index t = ![t.val / 2, 1, t.val % 2]) ∧
    (grid0.coords t 0).val = t.val / 2 :=
  (by decide +kernel : ∀ t : Fin grid0.N, _)

/-- Every point is given the whole batch, and the whole of the router's matrix. -/
theorem blk_x (t : Fin cfg0.N) (b : Fin 64) (k : Fin 2048) : iblk m c 0 t (ix2 b k) = X m c (ix2 b k) := by
  have hi := (idx_facts t).1.1
  unfold iblk
  rw [View.read_apply]
  refine congrArg (X m c) (funext fun a => Fin.ext ?_)
  match a with
  | ⟨0, _⟩ => show win0_0.index t 0 * 64 + 1 * b.val = b.val; rw [hi]; show 0 * 64 + 1 * b.val = b.val; omega
  | ⟨1, _⟩ => show win0_0.index t 1 * 2048 + 1 * k.val = k.val; rw [hi]; show 0 * 2048 + 1 * k.val = k.val; omega

theorem blk_wg (t : Fin cfg0.N) (e : Fin 8) (k : Fin 2048) : iblk m c 1 t (ix2 e k) = Wg m c (ix2 e k) := by
  have hi := (idx_facts t).1.2
  unfold iblk
  rw [View.read_apply]
  refine congrArg (Wg m c) (funext fun a => Fin.ext ?_)
  match a with
  | ⟨0, _⟩ => show win0_1.index t 0 * 8 + 1 * e.val = e.val; rw [hi]; show 0 * 8 + 1 * e.val = e.val; omega
  | ⟨1, _⟩ => show win0_1.index t 1 * 2048 + 1 * k.val = k.val; rw [hi]; show 0 * 2048 + 1 * k.val = k.val; omega

/-- An index of a weight array that lies in a block of `p` rows and `q` columns, the block numbered `I` and the index at row `y`
    and column `z` of it. -/
theorem idx_of_block {P Q p q : ℕ} {I : Fin 3 → ℕ} {n₀ n₁ n₂ y z : ℕ} (hI : I = ![n₀, n₁, n₂])
    {i : (⟨3, ![8, P, Q]⟩ : Shape).Idx} (h0 : (i 0).val = I 0 * 1 + 1 * 0) (h1 : (i 1).val = I 1 * p + 1 * y)
    (h2 : (i 2).val = I 2 * q + 1 * z) {e : Fin 8} {a : Fin P} {b : Fin Q} (he : n₀ = e.val) (ha : n₁ * p + y = a.val)
    (hb : n₂ * q + z = b.val) : i = ix3 e a b := by
  subst hI
  funext d
  refine Fin.ext ?_
  match d with
  | ⟨0, _⟩ => exact h0.trans (by show n₀ * 1 + 1 * 0 = e.val; omega)
  | ⟨1, _⟩ => exact h1.trans (by show n₁ * p + 1 * y = a.val; omega)
  | ⟨2, _⟩ => exact h2.trans (by show n₂ * q + 1 * z = b.val; omega)

/-- The gate rows, in the left half of the columns. -/
theorem blk_ga (t : Fin cfg0.N) (f : Fin 512) (k : Fin 1024) :
    iblk m c 2 t (ix3 0 f k) = W1 m c (ix3 (ex t) (gateRow (row t f)) (gateRow k)) :=
  congrArg (W1 m c) (idx_of_block (p := 512) (q := 1024) (y := f.val) (z := k.val) (idx_facts t).2.1.1 rfl rfl rfl rfl
    (show t.val % 2 * 512 + f.val = 512 * (t.val % 2) + f.val by omega) (show 0 * 1024 + k.val = k.val by omega))

/-- The gate rows, in the right half of the columns. -/
theorem blk_gb (t : Fin cfg0.N) (f : Fin 512) (k : Fin 1024) :
    iblk m c 3 t (ix3 0 f k) = W1 m c (ix3 (ex t) (gateRow (row t f)) (upRow k)) :=
  congrArg (W1 m c) (idx_of_block (p := 512) (q := 1024) (y := f.val) (z := k.val) (idx_facts t).2.1.2 rfl rfl rfl rfl
    (show t.val % 2 * 512 + f.val = 512 * (t.val % 2) + f.val by omega) (show 1 * 1024 + k.val = 1024 + k.val by omega))

/-- The other rows, in the left half of the columns. -/
theorem blk_ua (t : Fin cfg0.N) (f : Fin 512) (k : Fin 1024) :
    iblk m c 4 t (ix3 0 f k) = W1 m c (ix3 (ex t) (upRow (row t f)) (gateRow k)) :=
  congrArg (W1 m c) (idx_of_block (p := 512) (q := 1024) (y := f.val) (z := k.val) (idx_facts t).2.2.1.1 rfl rfl rfl rfl
    (show (t.val % 2 + 2) * 512 + f.val = 1024 + (512 * (t.val % 2) + f.val) by omega) (show 0 * 1024 + k.val = k.val by omega))

/-- The other rows, in the right half of the columns. -/
theorem blk_ub (t : Fin cfg0.N) (f : Fin 512) (k : Fin 1024) :
    iblk m c 5 t (ix3 0 f k) = W1 m c (ix3 (ex t) (upRow (row t f)) (upRow k)) :=
  congrArg (W1 m c) (idx_of_block (p := 512) (q := 1024) (y := f.val) (z := k.val) (idx_facts t).2.2.1.2 rfl rfl rfl rfl
    (show (t.val % 2 + 2) * 512 + f.val = 1024 + (512 * (t.val % 2) + f.val) by omega) (show 1 * 1024 + k.val = 1024 + k.val by omega))

/-- The second matrix, at the left half of the output columns. -/
theorem blk_wa (t : Fin cfg0.N) (h : Fin 1024) (f : Fin 512) :
    iblk m c 6 t (ix3 0 h f) = W2 m c (ix3 (ex t) (gateRow h) (row t f)) :=
  congrArg (W2 m c) (idx_of_block (p := 1024) (q := 512) (y := h.val) (z := f.val) (idx_facts t).2.2.2.1.1 rfl rfl rfl rfl
    (show 0 * 1024 + h.val = h.val by omega) (show t.val % 2 * 512 + f.val = 512 * (t.val % 2) + f.val by omega))

/-- The second matrix, at the right half of the output columns. -/
theorem blk_wb (t : Fin cfg0.N) (h : Fin 1024) (f : Fin 512) :
    iblk m c 7 t (ix3 0 h f) = W2 m c (ix3 (ex t) (upRow h) (row t f)) :=
  congrArg (W2 m c) (idx_of_block (p := 1024) (q := 512) (y := h.val) (z := f.val) (idx_facts t).2.2.2.1.2 rfl rfl rfl rfl
    (show 1 * 1024 + h.val = 1024 + h.val by omega) (show t.val % 2 * 512 + f.val = 512 * (t.val % 2) + f.val by omega))

/-- What grid point `t` adds at row `b` and output column `h`: its block of its expert's activations, each scaled by the
    expert's routing weight `w`, against the expert's second matrix. -/
def part (w : Fin 64 → Fin 8 → EReal) (b : Fin 64) (h : Fin 2048) (t : Fin cfg0.N) : EReal :=
  ∑ f : Fin 512, act (X m c) (W1 m c) b (ex t) (row t f) * w b (ex t) * W2 m c (ix3 (ex t) h (row t f))

variable {xb : FVec Ideal S64x2048 .bf16} (hx : ∀ b k, xb (ix2 b k) = X m c (ix2 b k))

include hx

/-- The two projections of a point's rows, over the copy `xb` of the batch. -/
theorem halves_gate (t : Fin cfg0.N) (b : Fin 64) (f : Fin 512) :
    halves xb (iblk m c 2 t) (iblk m c 3 t) b f = proj (X m c) (W1 m c) b (ex t) (gateRow (row t f)) := by
  unfold halves proj
  rw [sum_halves]
  simp only [hx]
  exact congrArg₂ (· + ·) (Finset.sum_congr rfl fun k _ => congrArg _ (blk_ga m c t f k))
    (Finset.sum_congr rfl fun k _ => congrArg _ (blk_gb m c t f k))

theorem halves_up (t : Fin cfg0.N) (b : Fin 64) (f : Fin 512) :
    halves xb (iblk m c 4 t) (iblk m c 5 t) b f = proj (X m c) (W1 m c) b (ex t) (upRow (row t f)) := by
  unfold halves proj
  rw [sum_halves]
  simp only [hx]
  exact congrArg₂ (· + ·) (Finset.sum_congr rfl fun k _ => congrArg _ (blk_ua m c t f k))
    (Finset.sum_congr rfl fun k _ => congrArg _ (blk_ub m c t f k))

/-- The activations a point computes. -/
theorem act_eq (t : Fin cfg0.N) (b : Fin 64) (f : Fin 512) :
    k0_pay16 (F := Ideal) xb (iblk m c 2 t) (iblk m c 3 t) (iblk m c 4 t) (iblk m c 5 t) (ix2 b f)
      = act (X m c) (W1 m c) b (ex t) (row t f) := by
  rw [pay16_apply, halves_gate m c hx, halves_up m c hx]
  rfl

variable {cw : FVec Ideal S64x8 .f32} {w : Fin 64 → Fin 8 → EReal} (hw : ∀ b e, cw (ix2 b e) = w b e)

include hw

omit hx in
/-- The masked weights of a point, summed over the experts: its expert's weight. -/
theorem scale_eq (t : Fin cfg0.N) (b : Fin 64) :
    ∑ e : Fin 8, Scalar.select (k0_pay17 (grid0.coords t) (ix2 b e)) (cw (ix2 b e)) 0 = w b (ex t) := by
  have hi : (grid0.coords t 0).val = (ex t).val := (idx_facts t).2.2.2.2
  simp only [pay17_apply _ (ex t) hi, hw]
  rw [Finset.sum_ite_eq' Finset.univ (ex t) (fun e => w b e), if_pos (Finset.mem_univ _)]

/-- A point's contribution, in the left half of the output columns and in the right half. -/
theorem added_left (t : Fin cfg0.N) (b : Fin 64) (h : Fin 1024) :
    added (k0_pay16 (F := Ideal) xb (iblk m c 2 t) (iblk m c 3 t) (iblk m c 4 t) (iblk m c 5 t)) (k0_pay17 (grid0.coords t)) cw
      (iblk m c 6 t) b h = part m c w b (gateRow h) t := by
  unfold added part
  rw [scale_eq hw]
  exact Finset.sum_congr rfl fun f _ => congrArg₂ (· * ·) (congrArg (· * _) (act_eq m c hx t b f)) (blk_wa m c t h f)

theorem added_right (t : Fin cfg0.N) (b : Fin 64) (h : Fin 1024) :
    added (k0_pay16 (F := Ideal) xb (iblk m c 2 t) (iblk m c 3 t) (iblk m c 4 t) (iblk m c 5 t)) (k0_pay17 (grid0.coords t)) cw
      (iblk m c 7 t) b h = part m c w b (upRow h) t := by
  unfold added part
  rw [scale_eq hw]
  exact Finset.sum_congr rfl fun f _ => congrArg₂ (· * ·) (congrArg (· * _) (act_eq m c hx t b f)) (blk_wb m c t h f)

end Cert.KernelIdeal.Point

end
-- ==== Proof.Fold.lean ====
/-
  WHAT THE OUTPUT ARRAY HOLDS. The kernel revisits one output block at all sixteen grid points and carries the routing
  weights and a copy of the batch from the first point on: after point `n` the block is the sum of the contributions of
  the points up to `n`, and after the last it is the layer over the two experts chosen.
-/
module

public import proofs.«01_k».proof.Proof.Blocks
public import proofs.«01_k».proof.Proof.Gen.KernelIdeal.Value

@[expose] public section

noncomputable section

open Idealize.ShloMosaic Idealize.ShloMosaic.TcCoe Idealize.SL.Sem Moe

namespace Moe

/-- A column is in the left half or in the right half. -/
theorem half_cases (h : Fin 2048) : (∃ k, h = gateRow k) ∨ ∃ k, h = upRow k := by
  by_cases hh : h.val < 1024
  · exact .inl ⟨⟨h.val, hh⟩, rfl⟩
  · exact .inr ⟨⟨h.val - 1024, by omega⟩, Fin.ext (by show h.val = 1024 + (h.val - 1024); omega)⟩

/-- A sum over the 1024 activations is the sum over its two blocks of 512. -/
theorem sum_blocks (g : Fin 1024 → EReal) :
    ∑ F, g F = ∑ f : Fin 512, g ⟨f.val, by omega⟩ + ∑ f : Fin 512, g ⟨512 + f.val, by omega⟩ :=
  Fin.sum_univ_add (a := 512) (b := 512) g

end Moe

namespace Cert.KernelIdeal.Point

open Cert.KernelIdeal Cert.KernelIdeal.Gen Cert.KernelIdeal.Value

variable (m : (ℓ : Loc nD τ sig) → Buf (Elt Ideal) ℓ) (c : Dev nD)

theorem logit_blk (t : Fin cfg0.N) (b : Fin 64) : logit (iblk m c 0 t) (iblk m c 1 t) b = logit (X m c) (Wg m c) b :=
  funext fun e => Finset.sum_congr rfl fun k _ => congrArg₂ (· * ·) (blk_x m c t b k) (blk_wg m c t e k)

variable (i₁ i₂ : Fin 64 → Fin 8)

/-- The routing weights, when the two experts of each row are `i₁ b` and `i₂ b`. -/
def wt (b : Fin 64) (e : Fin 8) : EReal := weight (prob (logit (X m c) (Wg m c) b)) (i₁ b) (i₂ b) e

/-- Grid point `n`. -/
def pt (n : ℕ) : Fin cfg0.N := if h : n < cfg0.N then ⟨n, h⟩ else ⟨0, lt_of_lt_of_eq (by decide) N_0.symm⟩

theorem pt_of_lt {n : ℕ} (h : n < cfg0.N) : pt n = ⟨n, h⟩ := dif_pos h

/-- What the block holds after point `n`. -/
def upTo (b : Fin 64) (h : Fin 2048) (n : ℕ) : EReal := ∑ j ∈ Finset.range (n + 1), part m c (wt m c i₁ i₂) b h (pt j)

variable (ht : ∀ b, TopTwo (prob (logit (X m c) (Wg m c) b)) (i₁ b) (i₂ b))

include ht

/-- The weights the first point stores. -/
theorem weights_eq (t : Fin cfg0.N) (b : Fin 64) (e : Fin 8) :
    k0_pay14 (F := Ideal) (k0_pay11 (F := Ideal) (iblk m c 0 t) (iblk m c 1 t)) (k0_pay12 (F := Ideal) (iblk m c 0 t) (iblk m c 1 t))
      (k0_pay13 (F := Ideal) (iblk m c 0 t) (iblk m c 1 t)) (ix2 b e) = wt m c i₁ i₂ b e := by
  have h : TopTwo (prob (logit (iblk m c 0 t) (iblk m c 1 t) b)) (i₁ b) (i₂ b) := by rw [logit_blk]; exact ht b
  rw [pay14_apply h e, logit_blk]
  rfl

/-- What is held at a point: in the output block `o`, the routing weights, the copy of the batch. -/
def Held (o : Fin 64 → Fin 2048 → EReal)
    (s : FVec Ideal S64x2048 .f32 × FVec Ideal S64x8 .f32 × FVec Ideal S64x2048 .bf16) : Prop :=
  (∀ b h, s.1 (ix2 b h) = o b h) ∧ (∀ b e, s.2.1 (ix2 b e) = wt m c i₁ i₂ b e) ∧ ∀ b k, s.2.2 (ix2 b k) = X m c (ix2 b k)

/-- The first point leaves its own contribution, and the weights and the copy. -/
theorem held_first (t : Fin cfg0.N) (h0 : t.val % 16 = 0)
    (acc : FVec Ideal S64x2048 .f32 × FVec Ideal S64x8 .f32 × FVec Ideal S64x2048 .bf16) :
    Held m c i₁ i₂ (fun b h => part m c (wt m c i₁ i₂) b h t) (stAt0 m c t.val t.isLt acc) := by
  have hx : ∀ b k, k0_pay4 (F := Ideal) (iblk m c 0 t) (ix2 b k) = X m c (ix2 b k) := fun b k =>
    (pay4_apply _ b k).trans (blk_x m c t b k)
  have hw := weights_eq m c i₁ i₂ ht t
  rw [stAt0_A m c t acc h0]
  refine ⟨fun b h => ?_, fun b e => ?_, fun b k => ?_⟩
  · dsimp only
    obtain ⟨k, rfl⟩ | ⟨k, rfl⟩ := half_cases h
    · rw [out_A_left, zero_add, added_left m c hx hw]
    · rw [out_A_right, zero_add, added_right m c hx hw]
  · dsimp only
    rw [sout_A_0, hw]
  · dsimp only
    rw [sout_A_1, hx]

omit ht in
/-- A later point adds its contribution to what it found, and carries the weights and the copy on. -/
theorem held_next (t : Fin cfg0.N) (h0 : ¬t.val % 16 = 0) {o : Fin 64 → Fin 2048 → EReal}
    {acc : FVec Ideal S64x2048 .f32 × FVec Ideal S64x8 .f32 × FVec Ideal S64x2048 .bf16} (ha : Held m c i₁ i₂ o acc) :
    Held m c i₁ i₂ (fun b h => o b h + part m c (wt m c i₁ i₂) b h t) (stAt0 m c t.val t.isLt acc) := by
  obtain ⟨ho, hw, hx⟩ := ha
  rw [stAt0_B m c t acc h0]
  refine ⟨fun b h => ?_, fun b e => ?_, fun b k => ?_⟩
  · dsimp only
    obtain ⟨k, rfl⟩ | ⟨k, rfl⟩ := half_cases h
    · rw [out_B_left, added_left m c hx hw, ho]
    · rw [out_B_right, added_right m c hx hw, ho]
  · dsimp only
    unfold sout0_B_0
    exact hw b e
  · dsimp only
    unfold sout0_B_1
    exact hx b k

/-- After point `n`: the sum of the contributions so far, the routing weights, the copy of the batch. -/
theorem fold_eq : ∀ (n : ℕ) (hn : 0 + n < cfg0.N),
    Held m c i₁ i₂ (fun b h => upTo m c i₁ i₂ b h n) (Pipeline.accAt (fun n h => stAt0 m c n h junk0) (stAt0 m c) 0 n hn)
  | 0, hn => by
    rw [Pipeline.accAt_zero]
    have := held_first m c i₁ i₂ ht ⟨0, hn⟩ rfl (junk0 (F := Ideal))
    unfold upTo
    simp only [zero_add, Finset.sum_range_one, pt_of_lt hn]
    exact this
  | n + 1, hn => by
    have hN : 0 + (n + 1) < 16 := lt_of_lt_of_eq hn (show cfg0.N = 16 from N_0)
    have hn' : n + 1 < cfg0.N := by omega
    rw [Pipeline.accAt_succ]
    have := held_next m c i₁ i₂ ⟨0 + (n + 1), hn⟩ (by show ¬(0 + (n + 1)) % 16 = 0; omega) (fold_eq n (by omega))
    have e : (fun b h => upTo m c i₁ i₂ b h (n + 1)) =
        fun b h => upTo m c i₁ i₂ b h n + part m c (wt m c i₁ i₂) b h ⟨0 + (n + 1), hn⟩ := by
      funext b h
      unfold upTo
      rw [Finset.sum_range_succ _ (n + 1), pt_of_lt hn']
      congr 2
      exact Fin.ext (Nat.zero_add _).symm
    rw [e]
    exact this

omit ht in
/-- An expert's two points add its output, scaled by its weight. -/
theorem parts_eq (w : Fin 64 → Fin 8 → EReal) (b : Fin 64) (h : Fin 2048) (e : Fin 8) (h0 : 0 ≤ w b e) (htop : w b e ≠ ⊤)
    {t u : Fin cfg0.N} (hT : t.val = 2 * e.val) (hU : u.val = 2 * e.val + 1) :
    part m c w b h t + part m c w b h u = w b e * expert (X m c) (W1 m c) (W2 m c) b e h := by
  have ht : ex t = e := Fin.ext (by show t.val / 2 = e.val; omega)
  have hu : ex u = e := Fin.ext (by show u.val / 2 = e.val; omega)
  have hr : ∀ f : Fin 512, row t f = ⟨f.val, by omega⟩ := fun f => Fin.ext (by show 512 * (t.val % 2) + f.val = f.val; omega)
  have hs : ∀ f : Fin 512, row u f = ⟨512 + f.val, by omega⟩ := fun f =>
    Fin.ext (by show 512 * (u.val % 2) + f.val = 512 + f.val; omega)
  unfold expert
  rw [mul_sum_of_bounds h0 htop, sum_blocks]
  unfold part
  simp only [ht, hu, hr, hs]
  exact congrArg₂ (· + ·) (Finset.sum_congr rfl fun f _ => by rw [mul_comm _ (w b e), mul_assoc])
    (Finset.sum_congr rfl fun f _ => by rw [mul_comm _ (w b e), mul_assoc])

/-- The output array, at row `b` and column `h`: the layer over the row's two experts. -/
theorem out_eq (b : Fin 64) (h : Fin 2048) :
    G8 m c (ix2 b h) = result (X m c) (W1 m c) (W2 m c) (Wg m c) (i₁ b) (i₂ b) b h := by
  have hb := weight_bounds (ht b)
  have hp := fun (e : Fin 8) (T U : ℕ) (hT : T = 2 * e.val) (hU : U = 2 * e.val + 1) =>
    have hlt : U < cfg0.N := lt_of_lt_of_eq (by have := e.isLt; omega) N_0.symm
    parts_eq m c (wt m c i₁ i₂) b h e (hb e).1 (hb e).2 (t := pt T) (u := pt U)
      (by rw [pt_of_lt (by omega)]; exact hT) (by rw [pt_of_lt hlt]; exact hU)
  rw [G8_last]
  refine ((fold_eq m c i₁ i₂ ht 15 _).1 b h).trans ?_
  have hsum : upTo m c i₁ i₂ b h 15 = ∑ e, wt m c i₁ i₂ b e * expert (X m c) (W1 m c) (W2 m c) b e h := by
    unfold upTo
    simp only [Fin.sum_univ_eight, ← hp 0 0 1 rfl rfl, ← hp 1 2 3 rfl rfl, ← hp 2 4 5 rfl rfl, ← hp 3 6 7 rfl rfl,
      ← hp 4 8 9 rfl rfl, ← hp 5 10 11 rfl rfl, ← hp 6 12 13 rfl rfl, ← hp 7 14 15 rfl rfl, Finset.sum_range_succ,
      Finset.sum_range_zero, zero_add, add_assoc]
  refine hsum.trans ?_
  rw [Finset.sum_eq_add (i₁ b) (i₂ b) (ht b).ne.symm]
  · rfl
  · intro e _ hne
    have : wt m c i₁ i₂ b e = 0 := by unfold wt weight; rw [if_neg hne.1, if_neg hne.2]
    rw [this, zero_mul]
  · exact fun hn => absurd (Finset.mem_univ _) hn
  · exact fun hn => absurd (Finset.mem_univ _) hn

end Cert.KernelIdeal.Point

end
-- ==== Proof.TopK.lean ====
/-
  THE TWO GREATEST OF A ROW. What a top-k of the rows of a 64 by 8 matrix returns: the entries, and their columns, at the
  row's positions in decreasing order; and when the first three entries of that order are strictly decreasing, its first
  two positions are the row's two greatest entries, each untied.
-/
module

public import proofs.«01_k».proof.Proof.Spec
public import Idealize.ShloMosaic.Lib.SortFacts

@[expose] public section

noncomputable section

open Idealize.ShloMosaic

namespace Moe

/-- The columns of a row, greatest entry first. -/
def order (p : Fin 8 → EReal) : Fin 8 → Fin 8 := sortedFrom fun k k' => FloatOps.cmpfTotal (F := Ideal) (φ := .f32) .gt (p k) (p k') == 1#1

/-- The comparison the sort uses holds when the first entry is the greater. -/
theorem before_iff (u v : EReal) : (FloatOps.cmpfTotal (F := Ideal) (φ := .f32) .gt u v == 1#1) = true ↔ v < u := by
  rw [beq_iff_eq]
  exact Ideal.cmp_ogt_eq_one _ _

/-- Entries come in decreasing order. -/
theorem order_le (p : Fin 8 → EReal) {i j : Fin 8} (hij : i < j) : p (order p j) ≤ p (order p i) := by
  have hb : ∀ a b : Fin 8, (FloatOps.cmpfTotal (F := Ideal) (φ := .f32) .gt (p a) (p b) == 1#1) = false ↔ p a ≤ p b := fun a b => by
    rw [← Bool.not_eq_true, before_iff, not_lt]
  exact (hb _ _).mp (sortedFrom_noInversion (fun a b => FloatOps.cmpfTotal (F := Ideal) (φ := .f32) .gt (p a) (p b) == 1#1) _
    (fun a b h => (hb b a).mpr ((before_iff _ _).mp h).le) (fun _ _ h => h)
    (fun a b d h h' => (hb a d).mpr (((hb a b).mp h).trans ((hb b d).mp h'))) i j hij)

/-- When the first three entries in order are strictly decreasing, the first two are the two greatest, untied. -/
theorem topTwo_of_order (p : Fin 8 → EReal) (h1 : p (order p 1) < p (order p 0)) (h2 : p (order p 2) < p (order p 1)) :
    TopTwo p (order p 0) (order p 1) := by
  have key : ∀ e, e ≠ order p 0 → e ≠ order p 1 → p e < p (order p 1) := fun e h0 h1' => by
    obtain ⟨j, rfl⟩ : ∃ j, order p j = e := sortedFrom_surjective _ e
    have hj : j = 2 ∨ 2 < j := by
      have n0 : j ≠ 0 := fun h => h0 (h ▸ rfl)
      have n1 : j ≠ 1 := fun h => h1' (h ▸ rfl)
      omega
    rcases hj with rfl | hj
    · exact h2
    · exact (order_le p hj).trans_lt h2
  refine ⟨fun h => ?_, fun e h0 => ?_, key⟩
  · rw [h] at h1
    exact lt_irrefl _ h1
  · by_cases he : e = order p 1
    · rw [he]; exact h1
    · exact (key e h0 he).trans h1

/-- A row's index with its column replaced. -/
theorem along_column (b : Fin 64) (k e : Fin 8) (h : 1 < 2) :
    Shape.Idx.along (s := ⟨2, ![64, 8]⟩) (ix2 b k) ⟨1, h⟩ e = ix2 b e := by
  funext a
  match a with
  | ⟨0, _⟩ => exact Function.update_of_ne (fun hh => absurd (congrArg Fin.val hh) Nat.zero_ne_one) _ _
  | ⟨1, _⟩ => exact Function.update_self ..

/-- Sorting the rows, with whatever travels along, reads both at the row's positions in order. -/
theorem sort_row {β : Type} (x : Arr2 64 8) (y : (⟨2, ![64, 8]⟩ : Shape).Idx → β) (b : Fin 64) (k : Fin 8) :
    let s := Host.sort2 ⟨2, ![64, 8]⟩ 1 (fun l r => FloatOps.cmpfTotal (F := Ideal) (φ := .f32) .gt l.1 r.1) x y
    s.1 (ix2 b k) = x (ix2 b (order (fun e => x (ix2 b e)) k)) ∧ s.2 (ix2 b k) = y (ix2 b (order (fun e => x (ix2 b e)) k)) := by
  unfold Host.sort2
  rw [dif_pos (show 1 < (⟨2, ![64, 8]⟩ : Shape).rank from Nat.one_lt_two)]
  have hc := fun e : Fin 8 => along_column b k e Nat.one_lt_two
  dsimp only
  constructor
  · refine (congrArg x (hc _)).trans (congrArg (fun e => x (ix2 b e)) ?_)
    exact congrArg (fun r => sortedFrom r k) (funext₂ fun e e' => by rw [hc e, hc e'])
  · refine (congrArg y (hc _)).trans (congrArg (fun e => y (ix2 b e)) ?_)
    exact congrArg (fun r => sortedFrom r k) (funext₂ fun e e' => by rw [hc e, hc e'])

variable {n : ℕ} (x : Arr2 64 8) (hs : (⟨2, ![64, 8]⟩ : Shape).Slices (fun _ => 0) ⟨2, ![64, n]⟩) (hn : n ≤ 8)

/-- The `k`-th entry a top-k of the rows returns. -/
theorem topK_value (b : Fin 64) (k : Fin n) :
    (Host.topK ⟨2, ![64, n]⟩ 1 (FloatOps.cmpfTotal (F := Ideal) (φ := .f32) .gt) x hs).1 (ix2 b k)
      = x (ix2 b (order (fun e => x (ix2 b e)) ⟨k.val, by omega⟩)) := by
  unfold Host.topK
  dsimp only
  rw [extractStridedSlice_apply _ _ hs (ix2 b k) (ix2 b (⟨k.val, by omega⟩ : Fin 8))
    (Fin.forall_fin_two.mpr ⟨(Nat.zero_add _).symm, (Nat.zero_add _).symm⟩)]
  exact (sort_row x _ b _).1

/-- The column it returns for it. -/
theorem topK_column (b : Fin 64) (k : Fin n) :
    (Host.topK ⟨2, ![64, n]⟩ 1 (FloatOps.cmpfTotal (F := Ideal) (φ := .f32) .gt) x hs).2 (ix2 b k)
      = BitVec.ofNat 32 (order (fun e => x (ix2 b e)) ⟨k.val, by omega⟩).val := by
  unfold Host.topK
  dsimp only
  rw [extractStridedSlice_apply _ _ hs (ix2 b k) (ix2 b (⟨k.val, by omega⟩ : Fin 8))
    (Fin.forall_fin_two.mpr ⟨(Nat.zero_add _).symm, (Nat.zero_add _).symm⟩)]
  exact (sort_row x _ b _).2

end Moe

end
-- ==== Proof.Reference.lean ====
/-
  WHAT THE REFERENCE COMPUTES. The reference runs every expert on every row, takes the two most probable experts' outputs
  of each row, scales them by their shares of the two probabilities and adds.
-/
module

public import proofs.«01_k».proof.Proof.TopK
public import proofs.«01_k».proof.Proof.Gen.ReferenceIdeal.Read

@[expose] public section

noncomputable section

open Idealize.ShloMosaic Moe

namespace Cert.ReferenceIdeal.Ref

open Cert.ReferenceIdeal Cert.ReferenceIdeal.Read Cert.ReferenceIdeal.Gen

variable (x : Arr2 64 2048) (w1 : Arr3 8 2048 2048) (w2 : Arr3 8 2048 1024) (wg : Arr2 8 2048)

/-- The router's probabilities. -/
theorem probs_apply (b : Fin 64) (e : Fin 8) : val_main_v12 (F := Ideal) x wg (ix2 b e) = prob (logit x wg b) e := by
  have hl : ∀ e, val_main_v1 (F := Ideal) x wg (ix2 b e) = logit x wg b e := fun e => by
    pointwise [val_main_v1, val_main_v0]
    rfl
  pointwise [val_main_v12, val_main_v11, val_main_v10, val_main_v9, val_main_v8, val_main_v7, val_main_v6, val_main_v5, val_main_v4,
    val_main_v3, val_main_v2, val_main_cst, val_main_cst_0, val_main_cst_1]
  simp only [hl, negInf, max_bot_left]
  rfl

/-- A row's two experts: its most probable one, and the next. -/
def pick (b : Fin 64) (k : Fin 2) : Fin 8 := order (prob (logit x wg b)) ⟨k.val, by omega⟩

/-- Their probabilities, and their columns. -/
theorem value_apply (b : Fin 64) (k : Fin 2) :
    val_main_values (F := Ideal) x wg (ix2 b k) = prob (logit x wg b) (pick x wg b k) := by
  have h := topK_value (val_main_v12 (F := Ideal) x wg) sliceFits_S64x8_S64x2 (by decide) b k
  rw [probs_apply, show (fun e => val_main_v12 (F := Ideal) x wg (ix2 b e)) = prob (logit x wg b) from funext (probs_apply x wg b)] at h
  exact h

theorem column_apply (b : Fin 64) (k : Fin 2) :
    val_main_indices (F := Ideal) x wg (ix2 b k) = BitVec.ofNat 32 (pick x wg b k).val := by
  have h := topK_column (val_main_v12 (F := Ideal) x wg) sliceFits_S64x8_S64x2 (by decide) b k
  rw [show (fun e => val_main_v12 (F := Ideal) x wg (ix2 b e)) = prob (logit x wg b) from funext (probs_apply x wg b)] at h
  exact h

/-- The share of each. -/
theorem share_apply (b : Fin 64) (k : Fin 2) : val_main_v16 (F := Ideal) x wg (ix2 b k)
    = Ideal.div (prob (logit x wg b) (pick x wg b k)) (prob (logit x wg b) (pick x wg b 0) + prob (logit x wg b) (pick x wg b 1)) := by
  pointwise [val_main_v16, val_main_v15, val_main_v14, val_main_v13, val_main_cst_2]
  simp only [value_apply, Fin.sum_univ_two]

/-- Expert `e`'s output `h` of row `b`. -/
theorem expert_apply (b : Fin 64) (e : Fin 8) (h : Fin 2048) :
    val_main_v23 (F := Ideal) x w1 w2 (ix3 b e h) = expert x w1 w2 b e h := by
  pointwise [val_main_v23, val_main_v22, val_main_v21, val_main_v20, val_main_v19, val_main_v18, val_main_v17, val_main_call0_v0,
    val_main_call0_v1, val_main_call0_v2, val_main_call0_v3, val_main_call0_v4, val_main_call0_v5, val_main_call0_cst,
    val_main_call0_cst_0]
  exact Finset.sum_congr rfl fun f _ => mul_comm _ _

/-- The start indices of the gather: the two experts' columns, none of them negative. -/
theorem start_apply (b : Fin 64) (k : Fin 2) :
    val_main_call1_v4 (F := Ideal) x wg (ix3 b k (0 : Fin 1)) = BitVec.ofNat 32 (pick x wg b k).val := by
  pointwise [val_main_call1_v4, val_main_call1_v1, val_main_call1_v0, val_main_call1_c, val_main_v24]
  rw [column_apply]
  have key : ∀ e : Fin 8, IntOp.cmpi .slt (BitVec.ofNat 32 e.val) 0#32 = 0#1 := by decide
  rw [key]
  rfl

/-- The mask of the gather's in-range columns: all of them. -/
theorem mask_apply (b : Fin 64) (k : Fin 2) (h : Fin 2048) : val_main_call1_v13 (F := Ideal) x wg (ix3 b k h) = 1#1 := by
  have h10 : val_main_call1_v10 (F := Ideal) x wg (ix3 b k (0 : Fin 1)) = 1#1 := by
    pointwise [val_main_call1_v10, val_main_call1_v9, val_main_call1_v8, val_main_call1_v7, val_main_call1_v6, val_main_call1_v5,
      val_main_call1_c_1, val_main_call1_c_2]
    rw [start_apply]
    generalize pick x wg b k = e
    revert e
    decide
  pointwise [val_main_call1_v13, val_main_call1_v11, val_main_call1_c_3]
  rw [show (Finset.univ : Finset (Fin 1)) = {0} from rfl, Finset.fold_singleton, h10]
  rfl

/-- The gather along the experts' axis: at row `b`, slot `k` and column `h`, the operand at row `b`, column `h` and the
    expert the start index names (clamped to the last). -/
theorem gather_read {α : Type} (v : S64x8x2048.Idx → α) (idx : IVec S64x2x1 32) (b : Fin 64) (k : Fin 2) (h : Fin 2048) :
    Host.gather gather_S64x8x2048_S64x2x1_S64x2x2048_2_1_0_0_1_2_112048 v idx (ix3 b k h)
      = v (ix3 b (⟨min (idx (ix3 b k (0 : Fin 1))).toInt.toNat 7, by omega⟩ : Fin 8) h) := by
  generalize hd : gather_S64x8x2048_S64x2x1_S64x2x2048_2_1_0_0_1_2_112048 = d
  have hb : d.operandBatchingDims = [0] := by rw [← hd]; rfl
  have hc : d.collapsedSliceDims = [1] := by rw [← hd]; rfl
  have hm : d.startIndexMap = [1] := by rw [← hd]; rfl
  unfold Host.gather
  refine congrArg v (funext fun a => Fin.ext ?_)
  show d.start (ix3 b k h) idx a + d.batchCoord (ix3 b k h) a + d.offCoord (ix3 b k h) a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (by rw [hb]; exact List.mem_singleton.mpr rfl),
      GatherDims.offCoord_eq_zero _ _ _ (fun h => ((GatherDims.mem_sKept _ _).mp h).2 (by rw [hb]; exact List.mem_singleton.mpr rfl)),
      Nat.zero_add, Nat.add_zero]
    unfold GatherDims.batchCoord
    rw [dif_pos (by rw [hb]; exact List.mem_singleton.mpr rfl)]
    subst hd
    rfl
  · rw [GatherDims.batchCoord_eq_zero _ _ _ (by rw [hb]; decide),
      GatherDims.offCoord_eq_zero _ _ _ (fun h => ((GatherDims.mem_sKept _ _).mp h).1 (by rw [hc]; exact List.mem_singleton.mpr rfl)),
      Nat.add_zero]
    unfold GatherDims.start
    have hin : (1 : Fin S64x8x2048.rank) ∈ d.startIndexMap := by rw [hm]; exact List.mem_singleton.mpr rfl
    rw [dif_pos hin]
    have hsi : d.siIdx (ix3 b k h) ⟨d.startIndexMap.idxOf _, List.idxOf_lt_length_iff.2 hin⟩ = ix3 b k 0 := by
      subst hd
      funext a
      refine Fin.ext ?_
      match a with
      | ⟨0, _⟩ => rfl
      | ⟨1, _⟩ => rfl
      | ⟨2, _⟩ => rfl
    rw [hsi]
    subst hd
    rfl
  · have hs : (2 : Fin S64x8x2048.rank) ∈ d.sKept := (GatherDims.mem_sKept _ _).mpr ⟨by rw [hc]; decide, by rw [hb]; decide⟩
    rw [GatherDims.batchCoord_eq_zero _ _ _ (by rw [hb]; decide)]
    unfold GatherDims.start GatherDims.offCoord
    rw [dif_neg (by rw [hm]; decide), dif_pos hs, Nat.zero_add]
    subst hd
    rfl

/-- What the gather takes: each of the two experts' outputs. -/
theorem gather_apply (b : Fin 64) (k : Fin 2) (h : Fin 2048) :
    val_main_call1_v12 (F := Ideal) x w1 w2 wg (ix3 b k h) = expert x w1 w2 b (pick x wg b k) h := by
  unfold val_main_call1_v12
  rw [gather_read, expert_apply]
  have key : ∀ e : Fin 8, min (BitVec.ofNat 32 e.val).toInt.toNat 7 = e.val := by decide
  refine congrArg (fun e => expert x w1 w2 b e h) (Fin.ext ?_)
  show min (val_main_call1_v4 (F := Ideal) x wg (ix3 b k (0 : Fin 1))).toInt.toNat 7 = _
  rw [start_apply]
  exact key _

/-- THE REFERENCE'S RESULT: the layer over each row's two most probable experts. -/
theorem out_apply (b : Fin 64) (h : Fin 2048) (hne : pick x wg b 1 ≠ pick x wg b 0) :
    val_main_v29 (F := Ideal) x w1 w2 wg (ix2 b h) = result x w1 w2 wg (pick x wg b 0) (pick x wg b 1) b h := by
  have h28 : ∀ k, val_main_v28 (F := Ideal) x w1 w2 wg (ix3 b k h)
      = expert x w1 w2 b (pick x wg b k) h * Ideal.div (prob (logit x wg b) (pick x wg b k))
          (prob (logit x wg b) (pick x wg b 0) + prob (logit x wg b) (pick x wg b 1)) := fun k => by
    pointwise [val_main_v28, val_main_v27, val_main_v26, val_main_v25]
    rw [mask_apply, gather_apply, share_apply]
    rfl
  pointwise [val_main_v29, val_main_cst_3]
  simp only [h28, Fin.sum_univ_two]
  unfold result weight
  rw [if_pos rfl, if_neg hne, if_pos rfl, mul_comm, mul_comm (expert x w1 w2 b (pick x wg b 1) h)]

end Cert.ReferenceIdeal.Ref

end
-- ==== Proof.Precondition.lean ====
/-
  WHAT THE PRECONDITION SAYS. The claims' precondition compares each row's three largest routing probabilities: where it
  holds, the row's two most probable experts are untied.
-/
module

public import proofs.«01_k».proof.Proof.Reference
public import proofs.«01_k».proof.Proof.Gen.Pre_top_two_untied

@[expose] public section

noncomputable section

open Idealize.ShloMosaic Moe

namespace Cert.Pre_top_two_untied.Untied

open Cert.Pre_top_two_untied Cert.Pre_top_two_untied.Facts Cert.ReferenceIdeal.Read Cert.ReferenceIdeal.Ref

variable (x : Arr2 64 2048) (w1 : Arr3 8 2048 2048) (w2 : Arr3 8 2048 1024) (wg : Arr2 8 2048)

/-- The three largest probabilities of each row, in order: they are read off the probabilities the reference computes. -/
def top3 : FVec Ideal S64x3 .f32 :=
  (Host.topK S64x3 1 (FloatOps.cmpfTotal .gt) (val_main_v12 (F := Ideal) x wg) sliceFits_S64x8_S64x3).1

theorem top3_apply (b : Fin 64) (k : Fin 3) :
    top3 x wg (ix2 b k) = prob (logit x wg b) (order (prob (logit x wg b)) ⟨k.val, by omega⟩) := by
  have h := topK_value (val_main_v12 (F := Ideal) x wg) sliceFits_S64x8_S64x3 (by decide) b k
  rw [probs_apply, show (fun e => val_main_v12 (F := Ideal) x wg (ix2 b e)) = prob (logit x wg b) from funext (probs_apply x wg b)] at h
  exact h

/-- The precondition compares the first of them with the second, and the second with the third. -/
theorem fn_eq : fn (F := Ideal) x w1 w2 wg = andi
    (cmpf (F := Ideal) .ogt
      (shapeCast S64 (extractStridedSlice S64x1 ![0, 0] (top3 x wg) slices_S64x3_S64x1_0_0) shapeCasts_S64x1_S64)
      (shapeCast S64 (extractStridedSlice S64x1 ![0, 1] (top3 x wg) slices_S64x3_S64x1_0_1) shapeCasts_S64x1_S64))
    (cmpf (F := Ideal) .ogt
      (shapeCast S64 (extractStridedSlice S64x1 ![0, 1] (top3 x wg) slices_S64x3_S64x1_0_1) shapeCasts_S64x1_S64)
      (shapeCast S64 (extractStridedSlice S64x1 ![0, 2] (top3 x wg) slices_S64x3_S64x1_0_2) shapeCasts_S64x1_S64)) := rfl

theorem fn_apply (b : Fin 64) : fn (F := Ideal) x w1 w2 wg (ix1 b)
    = IntOp.andi (Ideal.cmp .ogt (top3 x wg (ix2 b (0 : Fin 3))) (top3 x wg (ix2 b (1 : Fin 3))))
        (Ideal.cmp .ogt (top3 x wg (ix2 b (1 : Fin 3))) (top3 x wg (ix2 b (2 : Fin 3)))) := by
  rw [fn_eq]
  pointwise

/-- Where the precondition holds, each row's two most probable experts exceed all the others, and each other. -/
theorem topTwo (hp : fn (F := Ideal) x w1 w2 wg = fun _ => 1#1) (b : Fin 64) :
    TopTwo (prob (logit x wg b)) (pick x wg b 0) (pick x wg b 1) := by
  have h := congrFun hp (ix1 b)
  rw [fn_apply] at h
  have key : ∀ u v : BitVec 1, IntOp.andi u v = 1#1 → u = 1 ∧ v = 1 := by decide
  obtain ⟨h1, h2⟩ := key _ _ h
  rw [Ideal.cmp_ogt_eq_one, top3_apply, top3_apply] at h1 h2
  exact topTwo_of_order _ h1 h2

end Cert.Pre_top_two_untied.Untied

end
-- ==== Proof.Equation.lean ====
/-
  THE EQUATION. Where every row's two most probable experts are untied, the array the kernel's grid leaves is the array the
  reference computes from the same arguments.
-/
module

public import proofs.«01_k».proof.Proof.Fold
public import proofs.«01_k».proof.Proof.Precondition

@[expose] public section

noncomputable section

open Idealize.ShloMosaic Idealize.ShloMosaic.TcCoe Idealize.SL.Sem Moe

namespace Cert.Equation

open Cert.KernelIdeal Cert.KernelIdeal.Point

/-- An index of the output is a row and a column. -/
theorem idx_eq (i : S64x2048.Idx) : ∃ (b : Fin 64) (h : Fin 2048), ix2 b h = i :=
  ⟨i 0, i 1, funext fun a => match a with | ⟨0, _⟩ => rfl | ⟨1, _⟩ => rfl⟩

/-- The kernel's output array is the reference's result. -/
theorem kernel_eq_reference (m : (ℓ : Loc nD τ sig) → Buf (Elt Ideal) ℓ) (c : Dev nD)
    (hp : Cert.Pre_top_two_untied.fn (F := Ideal) (X m c) (W1 m c) (W2 m c) (Wg m c) = fun _ => 1#1) :
    Cert.KernelIdeal.Value.G8 m c = Cert.ReferenceIdeal.Read.val_main_v29 (F := Ideal) (X m c) (W1 m c) (W2 m c) (Wg m c) := by
  have ht := Cert.Pre_top_two_untied.Untied.topTwo (X m c) (W1 m c) (W2 m c) (Wg m c) hp
  funext i
  obtain ⟨b, h, rfl⟩ := idx_eq i
  exact (out_eq m c _ _ ht b h).trans (Cert.ReferenceIdeal.Ref.out_apply (X m c) (W1 m c) (W2 m c) (Wg m c) b h (ht b).ne).symm

end Cert.Equation

end
-- ==== Proof.lean ====
/-
  The proof of `Cert.Claim` (proofs.«01_k».proof.Defs): the three frames, that the idealization rewrote nothing, and that
  the idealized kernel and the idealized reference end with equal results. The mathematics is in the modules under
  Proof/ (Gate, Spec, Payload, Point, Blocks, Fold: the kernel; TopK, Reference: the reference; Precondition; Equation);
  this file puts the parts together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_top_two_untied
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments and ends with every semaphore counter at zero. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From memories that agree on the arguments, the precondition holding, the idealized kernel and the idealized reference
    both run, end with the same result and keep their arguments. -/
theorem equal_results : Cert.algebraic_KernelIdeal_ReferenceIdeal := by
  intro m ρ m' ρ' hpre harg
  refine ⟨fun c => Cert.KernelIdeal.Value.G8 m c, Cert.KernelIdeal.Value.run (F := Ideal) m ρ,
    (θ_run Cert.ReferenceIdeal.defs _ _).mono (fun r h c => ⟨(h c).1.trans ?_, (h c).2⟩)
      (Cert.ReferenceIdeal.Value.run (F := Ideal) m' ρ')⟩
  obtain ⟨h0, h1, h2, h3⟩ := harg c
  rw [Cert.ReferenceIdeal.Read.val_main_v29_eq, h0, h1, h2, h3]
  exact (Cert.Equation.kernel_eq_reference m c (hpre c)).symm

/-- The certificate's claims. -/
theorem claim : Cert.Claim := ⟨Cert.Kernel.Gen.facts, Cert.KernelIdeal.Gen.facts, Cert.ReferenceIdeal.Gen.facts, Cert.Pre_top_two_untied.Gen.facts,
  fun m ρ _ => Cert.Kernel.Gen.frame m ρ, fun m ρ _ => Cert.Kernel.Gen.frame m ρ, fun m ρ _ => Cert.KernelIdeal.Gen.frame m ρ,
  reference_frame, fun m ρ _ => reference_frame m ρ trivial, trivial, equal_results⟩

end Cert.Proof

end
